-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![768, 512]⟩ ⟨2, ![768, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![512, 768]⟩ ⟨2, ![2048, 768]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .bf16) (main_arg1 : FVec F S768x512 .bf16) (main_arg2 : FVec F S2x512x32x64 .bf16) (main_arg3 : FVec F S2x512x32x64 .bf16) (main_arg4 : FVec F S512x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x512 .bf16 := Host.absf main_arg1
  let main_cst_0 : FVec F S_ .bf16 := constant S_ .bf16 0x7F80#16
  let main_v5 : FVec F S768x512 .bf16 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S2x512x32x64 .bf16 := Host.absf main_arg2
  let main_cst_2 : FVec F S_ .bf16 := constant S_ .bf16 0x7F80#16
  let main_v10 : FVec F S2x512x32x64 .bf16 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Pre_finite_qk_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .bf16) (main_arg1 : FVec F S768x2048 .bf16) (main_arg2 : FVec F S2x512x32x64 .bf16) (main_arg3 : FVec F S2x512x32x64 .bf16) (main_arg4 : FVec F S2048x768 .bf16) : IVec S_ 1 :=
  let main_v0 : FVec F S2x512x768 .bf16 := Host.absf main_arg0
  let main_cst : FVec F S_ .bf16 := constant S_ .bf16 0x7F80#16
  let main_v1 : FVec F S2x512x768 .bf16 := broadcastInDim S2x512x768 ![] bcast_S_S2x512x768 main_cst
  let main_v2 : IVec S2x512x768 1 := cmpf .olt main_v0 main_v1
  let main_c : IVec S_ 1 := constantI S_ 1 1#1
  let main_v3 : IVec S_ 1 := (fun x v => Host.reduce IntOp.andi x v reducesTo_S2x512x768_S_d0_1_2 h_S_) main_v2 main_c
  let main_v4 : FVec F S768x2048 .bf16 := Host.absf main_arg1
  let main_cst_0 : FVec F S_ .bf16 := constant S_ .bf16 0x7F80#16
  let main_v5 : FVec F S768x2048 .bf16 := broadcastInDim S768x2048 ![] bcast_S_S768x2048 main_cst_0
  let main_v6 : IVec S768x2048 1 := cmpf .olt main_v4 main_v5
  let main_c_1 : IVec S_ 1 := constantI S_ 1 1#1
  let main_v7 : IVec S_ 1 := (fun x v => Host.reduce IntOp.andi x v reducesTo_S768x2048_S_d0_1 h_S_) main_v6 main_c_1
  let main_v8 : IVec S_ 1 := andi main_v3 main_v7
  let main_v9 : FVec F S2x512x32x64 .bf16 := Host.absf main_arg2
  let main_cst_2 : FVec F S_ .bf16 := constant S_ .bf16 0x7F80#16
  let main_v10 : FVec F S2x512x32x64 .bf16 := broadcastInDim S2x512x32x64 ![] bcast_S_S2x512x32x64 main_cst_2
  let main_v11 : IVec S2x512x32x64 1 := cmpf .olt main_v9 main_v10
  let main_c_3 : IVec S_ 1 := constantI S_ 1 1#1
  let main_v12 : IVec S_ 1 := (fun x v => Host.reduce IntOp.andi x v reducesTo_S2x512x32x64_S_d0_1_2_3 h_S_) main_v11 main_c_3
  let main_v13 : IVec S_ 1 := andi main_v8 main_v12
  main_v13
-- ==== Kernel.lean ====
abbrev S2x512x768 : Shape := ⟨3, ![2, 512, 768]⟩
abbrev S768x512 : Shape := ⟨2, ![768, 512]⟩
abbrev S2x512x32x64 : Shape := ⟨4, ![2, 512, 32, 64]⟩
abbrev S512x768 : Shape := ⟨2, ![512, 768]⟩
abbrev S_ : Shape := ⟨0, ![]⟩
abbrev S2x512x8x64 : Shape := ⟨4, ![2, 512, 8, 64]⟩
abbrev S2x8x512x64 : Shape := ⟨4, ![2, 8, 512, 64]⟩
abbrev S1024x768 : Shape := ⟨2, ![1024, 768]⟩
abbrev S3x512x768 : Shape := ⟨3, ![3, 512, 768]⟩
abbrev S3x4 : Shape := ⟨2, ![3, 4]⟩
abbrev S512x512 : Shape := ⟨2, ![512, 512]⟩
abbrev S256x768 : Shape := ⟨2, ![256, 768]⟩
abbrev S256x512 : Shape := ⟨2, ![256, 512]⟩
abbrev S256x256 : Shape := ⟨2, ![256, 256]⟩
abbrev S256x64 : Shape := ⟨2, ![256, 64]⟩
abbrev S1x1x512x64 : Shape := ⟨4, ![1, 1, 512, 64]⟩
abbrev S512x64 : Shape := ⟨2, ![512, 64]⟩
abbrev S256 : Shape := ⟨1, ![256]⟩
abbrev S256x1 : Shape := ⟨2, ![256, 1]⟩
abbrev S1x256x768 : Shape := ⟨3, ![1, 256, 768]⟩
abbrev S1x1 : Shape := ⟨2, ![1, 1]⟩
abbrev S1x128x768 : Shape := ⟨3, ![1, 128, 768]⟩
abbrev S128x768 : Shape := ⟨2, ![128, 768]⟩
abbrev S1x512x768 : Shape := ⟨3, ![1, 512, 768]⟩

abbrev nBuf : Space → Nat
  | .hbm => 38
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x512, .bf16⟩
  | .hbm, ⟨2, _⟩ => ⟨S2x512x32x64, .bf16⟩
  | .hbm, ⟨3, _⟩ => ⟨S2x512x32x64, .bf16⟩
  | .hbm, ⟨4, _⟩ => ⟨S512x768, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x512x8x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x512x8x64, .bf16⟩
  | .hbm, ⟨33, _⟩ => ⟨S2x8x512x64, .bf16⟩
  | .hbm, ⟨34, _⟩ => ⟨S2x8x512x64, .bf16⟩
  | .hbm, ⟨35, _⟩ => ⟨S1024x768, .bf16⟩
  | .hbm, ⟨36, _⟩ => ⟨S1024x768, .bf16⟩
  | .hbm, ⟨37, _⟩ => ⟨S2x512x768, .bf16⟩
  | .local _ .vmem, ⟨0, _⟩ => ⟨S1024x768, .bf16⟩
  | .local _ .vmem, ⟨1, _⟩ => ⟨S768x512, .bf16⟩
  | .local _ .vmem, ⟨2, _⟩ => ⟨S2x8x512x64, .bf16⟩
  | .local _ .vmem, ⟨3, _⟩ => ⟨S2x8x512x64, .bf16⟩
  | .local _ .vmem, ⟨4, _⟩ => ⟨S512x768, .bf16⟩
  | .local _ .vmem, ⟨5, _⟩ => ⟨S1024x768, .bf16⟩
  | .local _ .vmem, ⟨6, _⟩ => ⟨S3x512x768, .bf16⟩
  | .local _ .vmem, ⟨7, _⟩ => ⟨S3x512x768, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_6 : BitVec 32 := 1#32
  let v11 : BitVec 32 := Scalar.muli v3 c1_i32_6
  let v12 : BitVec 32 := Scalar.addi c0_i32_7 v11
  v12.toNat
def k0_dev2 (d0 : Dev nD) : Nat :=
  let c0_i32_10 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_9 : BitVec 32 := 1#32
  let v13 : BitVec 32 := Scalar.muli v4 c1_i32_9
  let v14 : BitVec 32 := Scalar.addi c0_i32_10 v13
  v14.toNat
def k0_off1 (d0 : Dev nD) (c0_i32_27 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let c512_i32 : BitVec 32 := 512#32
  let v72 : BitVec 32 := Scalar.muli v8 c512_i32
  let v73 : BitVec 32 := Scalar.addi v72 c0_i32_27
  let v74 : Index := Scalar.indexCast v73
  let c0_28 : Index := 0#32
  ![v74.toNat, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v83 : Index := Scalar.indexCast v8
  let c0_30 : Index := 0#32
  let c0_31 : Index := 0#32
  let c0_32 : Index := 0#32
  ![v83.toNat, 0, 0, 0]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v105 : Index := Scalar.indexCast v8
  let c1 : Index := 1#32
  let c0_40 : Index := 0#32
  let c0_41 : Index := 0#32
  ![v105.toNat, 1, 0, 0]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v127 : Index := Scalar.indexCast v8
  let c2 : Index := 2#32
  let c0_49 : Index := 0#32
  let c0_50 : Index := 0#32
  ![v127.toNat, 2, 0, 0]
def k0_off5 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v149 : Index := Scalar.indexCast v8
  let c3 : Index := 3#32
  let c0_58 : Index := 0#32
  let c0_59 : Index := 0#32
  ![v149.toNat, 3, 0, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v171 : Index := Scalar.indexCast v8
  let c4 : Index := 4#32
  let c0_67 : Index := 0#32
  let c0_68 : Index := 0#32
  ![v171.toNat, 4, 0, 0]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v193 : Index := Scalar.indexCast v8
  let c5 : Index := 5#32
  let c0_76 : Index := 0#32
  let c0_77 : Index := 0#32
  ![v193.toNat, 5, 0, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v215 : Index := Scalar.indexCast v8
  let c6 : Index := 6#32
  let c0_85 : Index := 0#32
  let c0_86 : Index := 0#32
  ![v215.toNat, 6, 0, 0]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v237 : Index := Scalar.indexCast v8
  let c7 : Index := 7#32
  let c0_94 : Index := 0#32
  let c0_95 : Index := 0#32
  ![v237.toNat, 7, 0, 0]
def k0_dev3 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_112 : BitVec 32 := 1#32
  let v261 : BitVec 32 := Scalar.muli v3 c1_i32_112
  let v262 : BitVec 32 := Scalar.addi c0_i32_113 v261
  v262.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_124 : BitVec 32 := 1#32
  let v271 : BitVec 32 := Scalar.muli v3 c1_i32_124
  let v272 : BitVec 32 := Scalar.addi c0_i32_125 v271
  v272.toNat
def k0_dev5 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_221 : BitVec 32 := 1#32
  let v454 : BitVec 32 := Scalar.muli v3 c1_i32_221
  let v455 : BitVec 32 := Scalar.addi c0_i32_222 v454
  v455.toNat
def k0_dev6 (d0 : Dev nD) : Nat :=
  let c0_i32_234 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_233 : BitVec 32 := 1#32
  let v464 : BitVec 32 := Scalar.muli v3 c1_i32_233
  let v465 : BitVec 32 := Scalar.addi c0_i32_234 v464
  v465.toNat
def k0_off10 (d0 : Dev nD) (c0_i32_239 : BitVec 32) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let c512_i32_238 : BitVec 32 := 512#32
  let v474 : BitVec 32 := Scalar.muli v9 c512_i32_238
  let v475 : BitVec 32 := Scalar.addi v474 c0_i32_239
  let v476 : Index := Scalar.indexCast v475
  let c0_240 : Index := 0#32
  ![v476.toNat, 0]
def k0_off11 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v485 : Index := Scalar.indexCast v9
  let c0_243 : Index := 0#32
  let c0_244 : Index := 0#32
  let c0_245 : Index := 0#32
  ![v485.toNat, 0, 0, 0]
def k0_off12 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v507 : Index := Scalar.indexCast v9
  let c1_253 : Index := 1#32
  let c0_254 : Index := 0#32
  let c0_255 : Index := 0#32
  ![v507.toNat, 1, 0, 0]
def k0_off13 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v529 : Index := Scalar.indexCast v9
  let c2_263 : Index := 2#32
  let c0_264 : Index := 0#32
  let c0_265 : Index := 0#32
  ![v529.toNat, 2, 0, 0]
def k0_off14 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v551 : Index := Scalar.indexCast v9
  let c3_273 : Index := 3#32
  let c0_274 : Index := 0#32
  let c0_275 : Index := 0#32
  ![v551.toNat, 3, 0, 0]
def k0_off15 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v573 : Index := Scalar.indexCast v9
  let c4_283 : Index := 4#32
  let c0_284 : Index := 0#32
  let c0_285 : Index := 0#32
  ![v573.toNat, 4, 0, 0]
def k0_off16 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v595 : Index := Scalar.indexCast v9
  let c5_293 : Index := 5#32
  let c0_294 : Index := 0#32
  let c0_295 : Index := 0#32
  ![v595.toNat, 5, 0, 0]
def k0_off17 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v617 : Index := Scalar.indexCast v9
  let c6_303 : Index := 6#32
  let c0_304 : Index := 0#32
  let c0_305 : Index := 0#32
  ![v617.toNat, 6, 0, 0]
def k0_off18 (d0 : Dev nD) : Fin 4 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let v639 : Index := Scalar.indexCast v9
  let c7_313 : Index := 7#32
  let c0_314 : Index := 0#32
  let c0_315 : Index := 0#32
  ![v639.toNat, 7, 0, 0]
def k0_dev7 (d0 : Dev nD) : Nat :=
  let c0_i32_359 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_358 : BitVec 32 := 1#32
  let v682 : BitVec 32 := Scalar.muli v4 c1_i32_358
  let v683 : BitVec 32 := Scalar.addi c0_i32_359 v682
  v683.toNat
def k0_dev8 (d0 : Dev nD) : Nat :=
  let c0_i32_399 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_398 : BitVec 32 := 1#32
  let v715 : BitVec 32 := Scalar.muli v4 c1_i32_398
  let v716 : BitVec 32 := Scalar.addi c0_i32_399 v715
  v716.toNat
def k0_dev9 (d0 : Dev nD) : Nat :=
  let c0_i32_525 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_524 : BitVec 32 := 1#32
  let v917 : BitVec 32 := Scalar.muli v4 c1_i32_524
  let v918 : BitVec 32 := Scalar.addi c0_i32_525 v917
  v918.toNat
def k0_dev10 (d0 : Dev nD) : Nat :=
  let c0_i32_565 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_564 : BitVec 32 := 1#32
  let v950 : BitVec 32 := Scalar.muli v4 c1_i32_564
  let v951 : BitVec 32 := Scalar.addi c0_i32_565 v950
  v951.toNat
def k0_dev11 (d0 : Dev nD) : Nat :=
  let c0_i32_606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_605 : BitVec 32 := 1#32
  let v982 : BitVec 32 := Scalar.muli v3 c1_i32_605
  let v983 : BitVec 32 := Scalar.addi c0_i32_606 v982
  v983.toNat
def k0_dev12 (d0 : Dev nD) : Nat :=
  let c0_i32_647 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_646 : BitVec 32 := 1#32
  let v1014 : BitVec 32 := Scalar.muli v3 c1_i32_646
  let v1015 : BitVec 32 := Scalar.addi c0_i32_647 v1014
  v1015.toNat
def k0_dev13 (d0 : Dev nD) : Nat :=
  let c0_i32_688 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_687 : BitVec 32 := 1#32
  let v1046 : BitVec 32 := Scalar.muli v3 c1_i32_687
  let v1047 : BitVec 32 := Scalar.addi c0_i32_688 v1046
  v1047.toNat
def k0_dev14 (d0 : Dev nD) : Nat :=
  let c0_i32_729 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_728 : BitVec 32 := 1#32
  let v1078 : BitVec 32 := Scalar.muli v3 c1_i32_728
  let v1079 : BitVec 32 := Scalar.addi c0_i32_729 v1078
  v1079.toNat
def k0_off19 (d0 : Dev nD) (c0_i32_735 : BitVec 32) : Fin 2 → Nat :=
  let c1_i32_4 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let v9 : BitVec 32 := Scalar.subi c1_i32_4 v8
  let c512_i32_734 : BitVec 32 := 512#32
  let v1088 : BitVec 32 := Scalar.muli v9 c512_i32_734
  let v1090 : BitVec 32 := Scalar.addi v1088 c0_i32_735
  let v1091 : Index := Scalar.indexCast v1090
  let c0_736 : Index := 0#32
  ![v1091.toNat, 0]
def k0_off20 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .eq v2 c0_i32
  let c3_i32_1 : BitVec 32 := 3#32
  let v6 : BitVec 1 := Scalar.cmpi .eq v2 c3_i32_1
  let v7 : BitVec 1 := Scalar.ori v5 v6
  let c1_i32_2 : BitVec 32 := 1#32
  let c0_i32_3 : BitVec 32 := 0#32
  let v8 : BitVec 32 := Scalar.select v7 c1_i32_2 c0_i32_3
  let c512_i32_838 : BitVec 32 := 512#32
  let v1163 : BitVec 32 := Scalar.muli v8 c512_i32_838
  let v1164 : Index := Scalar.indexCast v1163
  let c0_839 : Index := 0#32
  ![v1164.toNat, 0]
abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x8x512x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x512x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 93
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x32x64, .bf16⟩
  | .hbm, ⟨3, _⟩ => ⟨S2x512x32x64, .bf16⟩
  | .hbm, ⟨4, _⟩ => ⟨S2048x768, .bf16⟩
  | .hbm, ⟨5, _⟩ => ⟨S2x512x2048, .f32⟩
  | .hbm, ⟨6, _⟩ => ⟨S2x512x2048, .bf16⟩
  | .hbm, ⟨7, _⟩ => ⟨S2x512x32x64, .bf16⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S512, .i32⟩
  | .hbm, ⟨29, _⟩ => ⟨S_, .i32⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S512, .i32⟩
  | .hbm, ⟨38, _⟩ => ⟨S512, .i32⟩
  | .hbm, ⟨39, _⟩ => ⟨S_, .i32⟩
  | .hbm, ⟨40, _⟩ => ⟨S512, .i32⟩
  | .hbm, ⟨41, _⟩ => ⟨S512, .i1⟩
  | .hbm, ⟨42, _⟩ => ⟨S512, .i1⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S512, .i32⟩
  | .hbm, ⟨47, _⟩ => ⟨S1x512, .i32⟩
  | .hbm, ⟨48, _⟩ => ⟨S512x512, .i32⟩
  | .hbm, ⟨49, _⟩ => ⟨S512x512, .i32⟩
  | .hbm, ⟨50, _⟩ => ⟨S512x512, .i1⟩
  | .hbm, ⟨51, _⟩ => ⟨S2x32x512x512, .f32⟩
  | .hbm, ⟨52, _⟩ => ⟨S2x32x512x512, .bf16⟩
  | .hbm, ⟨53, _⟩ => ⟨S2x32x512x512, .f32⟩
  | .hbm, ⟨54, _⟩ => ⟨S_, .f32⟩
  | .hbm, ⟨55, _⟩ => ⟨S2x32x512x512, .f32⟩
  | .hbm, ⟨56, _⟩ => ⟨S2x32x512x512, .f32⟩
  | .hbm, ⟨57, _⟩ => ⟨S1x1x512x512, .i1⟩
  | .hbm, ⟨58, _⟩ => ⟨S_, .f32⟩
  | .hbm, ⟨59, _⟩ => ⟨S_, .f32⟩
  | .hbm, ⟨60, _⟩ => ⟨S2x32x512x512, .i1⟩
  | .hbm, ⟨61, _⟩ => ⟨S2x32x512x512, .f32⟩
  | .hbm, ⟨62, _⟩ => ⟨S2x32x512x512, .f32⟩
  | .hbm, ⟨63, _⟩ => ⟨S_, .f32⟩
  | .hbm, ⟨64, _⟩ => ⟨S2x32x512, .f32⟩
  | .hbm, ⟨65, _⟩ => ⟨S2x32x512x1, .f32⟩
  | .hbm, ⟨66, _⟩ => ⟨S2x32x512x512, .f32⟩
  | .hbm, ⟨67, _⟩ => ⟨S2x32x512x512, .f32⟩
  | .hbm, ⟨68, _⟩ => ⟨S2x32x512x512, .f32⟩
  | .hbm, ⟨69, _⟩ => ⟨S_, .i1⟩
  | .hbm, ⟨70, _⟩ => ⟨S512, .i1⟩
  | .hbm, ⟨71, _⟩ => ⟨S1x1x512x1, .i1⟩
  | .hbm, ⟨72, _⟩ => ⟨S_, .f32⟩
  | .hbm, ⟨73, _⟩ => ⟨S2x32x512, .f32⟩
  | .hbm, ⟨74, _⟩ => ⟨S2x32x512x1, .f32⟩
  | .hbm, ⟨75, _⟩ => ⟨S_, .f32⟩
  | .hbm, ⟨76, _⟩ => ⟨S_, .f32⟩
  | .hbm, ⟨77, _⟩ => ⟨S2x32x512x1, .i1⟩
  | .hbm, ⟨78, _⟩ => ⟨S2x32x512x1, .f32⟩
  | .hbm, ⟨79, _⟩ => ⟨S2x32x512x1, .f32⟩
  | .hbm, ⟨80, _⟩ => ⟨S2x32x512x512, .f32⟩
  | .hbm, ⟨81, _⟩ => ⟨S2x32x512x512, .f32⟩
  | .hbm, ⟨82, _⟩ => ⟨S1x1x512x1, .i1⟩
  | .hbm, ⟨83, _⟩ => ⟨S_, .f32⟩
  | .hbm, ⟨84, _⟩ => ⟨S_, .f32⟩
  | .hbm, ⟨85, _⟩ => ⟨S2x32x512x512, .i1⟩
  | .hbm, ⟨86, _⟩ => ⟨S2x32x512x512, .f32⟩
  | .hbm, ⟨87, _⟩ => ⟨S2x32x512x512, .f32⟩
  | .hbm, ⟨88, _⟩ => ⟨S2x32x64x512, .f32⟩
  | .hbm, ⟨89, _⟩ => ⟨S2x512x32x64, .f32⟩
  | .hbm, ⟨90, _⟩ => ⟨S2x512x2048, .f32⟩
  | .hbm, ⟨91, _⟩ => ⟨S2x512x768, .f32⟩
  | .hbm, ⟨92, _⟩ => ⟨S2x512x768, .bf16⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩

abbrev nD : Nat := 1
abbrev τ : Topo := Topo.v7x

variable {F : FTy → Type} [FloatOps F]
-- ==== Proof.Vals.lean ====
/-
  The values the kernel computes, device by device, as functions of what its input windows hold: the four slabs of partial
  sums, the chunks each exchange stage sends, and the result. Generic in the float instance: the frame claims read them as
  opaque, the value claim at the extended reals.
-/
module

public import proofs.«01_k».proof.Proof.Gen.KernelIdeal.Skeleton
public import Idealize.ShloMosaic.Lib.Pipeline.FrameBody
public import Idealize.ShloMosaic.Lib.ValueIdxCore

@[expose] public section

noncomputable section

namespace Cert.KernelIdeal.P

open Cert.KernelIdeal Cert.KernelIdeal.Gen
open Idealize.ShloMosaic Idealize.SL.Sem
open Idealize.ShloMosaic.View (ld)
open Idealize.ShloMosaic.ValueIdx

variable {F : FTy → Type} [FloatOps F]

/-! ## The mesh's pairings -/

/-- The partner of the first and third stages: the device whose number differs in the last bit. -/
def p1 (c : Dev nD) : Dev nD := ⟨c.val ^^^ 1, by revert c; decide⟩
/-- The partner of the second stage: the device counted from the other end. -/
def p2 (c : Dev nD) : Dev nD := ⟨3 - c.val, by revert c; decide⟩

/-- The first partner's first partner is the device itself. -/
theorem p1_p1 (c : Dev nD) : p1 (p1 c) = c := by revert c; decide
/-- The second partner's second partner is the device itself. -/
theorem p2_p2 (c : Dev nD) : p2 (p2 c) = c := by revert c; decide
/-- The two partners differ. -/
theorem p1_ne_p2 (c : Dev nD) : p1 c ≠ p2 c := by revert c; decide

/-- The partner of stage `s`. -/
def peer (s : Fin 3) (c : Dev nD) : Dev nD := if s = 1 then p2 c else p1 c
/-- In each stage a partner's partner is the device itself. -/
theorem peer_peer (s : Fin 3) (c : Dev nD) : peer s (peer s c) = c := by revert s c; decide

/-- The batch a device computes first, and hands to its first partner. -/
def fb (c : Dev nD) : Nat := if c.val = 0 ∨ c.val = 3 then 1 else 0

/-! ## What a device's input windows hold -/

/-- The contents of the five input windows of one device: the activations, its columns of the query weights, its heads' keys and
    values, its rows of the output weights. -/
structure In (F : FTy → Type) where
  x : Vec F S1024x768 .bf16
  wq : Vec F S768x512 .bf16
  k : Vec F S2x8x512x64 .bf16
  v : Vec F S2x8x512x64 .bf16
  wo : Vec F S512x768 .bf16

variable (c : Dev nD) (I : In F)

/-- The query weights and the output weights as loaded, and the mask. -/
abbrev wqL : FVec F S768x512 .bf16 := k0_pay2 (ld I.wq (Rect.unit (s := S768x512) ![0, 0] S768x512.size inb_S768x512_S768x512_0_0))
abbrev woL : FVec F S512x768 .bf16 := k0_pay3 (ld I.wo (Rect.unit (s := S512x768) ![0, 0] S512x768.size inb_S512x768_S512x768_0_0))
abbrev mask : FVec F S512x512 .f32 :=
  k0_pay6 (iota .tc S512x512 32 [0] iota_S512x512_d0_w32) 64#32 k0_pay4 k0_pay5 (Scalar.extui (Scalar.cmpi .sgt 64#32 0#32))

/-- A head's keys (or values): the one the offsets `o` name. -/
abbrev hd (o : Fin 4 → Nat) (h : ∀ a, o a + S1x1x512x64.size a ≤ S2x8x512x64.size a) (X : Vec F S2x8x512x64 .bf16) : Vec F S1x1x512x64 .bf16 :=
  ld X (Rect.unit (s := S2x8x512x64) o S1x1x512x64.size h)

/-- The activations' rows of the four slabs, in the order computed. -/
abbrev x0 : Vec F S256x768 .bf16 := ld I.x (Rect.unit (s := S1024x768) (k0_off1 c 0#32) S256x768.size (k0_off1_inb c 0))
abbrev x1 : Vec F S256x768 .bf16 := ld I.x (Rect.unit (s := S1024x768) (k0_off1 c 256#32) S256x768.size (k0_off1_inb c 1))
abbrev x2 : Vec F S256x768 .bf16 := ld I.x (Rect.unit (s := S1024x768) (k0_off10 c 0#32) S256x768.size (k0_off10_inb c 0))
abbrev x3 : Vec F S256x768 .bf16 := ld I.x (Rect.unit (s := S1024x768) (k0_off10 c 256#32) S256x768.size (k0_off10_inb c 1))

/-! ## The four slabs -/

/-- The first batch's first slab: what is stored to be sent. -/
def w0 : FVec F S1x256x768 .bf16 :=
  let v76 := k0_pay7 (x0 c I)
  let cst : FVec F S256x512 .f32 := constant S256x512 .f32 0x00000000#32
  let v77 := k0_pay8 (wqL I) v76 cst
  let v78 := k0_pay9 (F := F) mask
  k0_pay27 (woL I) v78
    (k0_pay10 (wqL I) mask v76 cst (hd _ (k0_off2_inb c) I.k) (hd _ (k0_off2_inb c) I.v))
    (k0_pay14 (k0_pay11 (hd _ (k0_off3_inb c) I.v)) (k0_pay12 (wqL I) mask v76 cst (hd _ (k0_off3_inb c) I.k)) (k0_pay13 (wqL I) mask v76 cst (hd _ (k0_off3_inb c) I.k)))
    (k0_pay15 v77 v78 (hd _ (k0_off4_inb c) I.k) (hd _ (k0_off4_inb c) I.v))
    (k0_pay18 v78 (k0_pay16 (hd _ (k0_off5_inb c) I.v)) (k0_pay17 v77 (hd _ (k0_off5_inb c) I.k)))
    (k0_pay19 v77 v78 (hd _ (k0_off6_inb c) I.k) (hd _ (k0_off6_inb c) I.v))
    (k0_pay23 v78 (k0_pay20 v77) (k0_pay21 (hd _ (k0_off7_inb c) I.k)) (k0_pay22 (hd _ (k0_off7_inb c) I.v)))
    (k0_pay24 v77 v78 (hd _ (k0_off8_inb c) I.k) (hd _ (k0_off8_inb c) I.v))
    (k0_pay25 v77) (k0_pay26 (hd _ (k0_off9_inb c) I.k)) (hd _ (k0_off9_inb c) I.v)

/-- The first batch's second slab. -/
def w1 : FVec F S1x256x768 .bf16 :=
  let v286 := k0_pay28 (wqL I) (x1 c I)
  let v287 := k0_pay29 (F := F) mask
  k0_pay41 (woL I) v287
    (k0_pay30 (wqL I) mask (x1 c I) (hd _ (k0_off2_inb c) I.k) (hd _ (k0_off2_inb c) I.v))
    (k0_pay32 v287 (k0_pay31 (wqL I) (x1 c I)) (hd _ (k0_off3_inb c) I.k) (hd _ (k0_off3_inb c) I.v))
    (k0_pay33 v286 v287 (hd _ (k0_off4_inb c) I.k) (hd _ (k0_off4_inb c) I.v))
    (k0_pay35 v287 (k0_pay34 v286) (hd _ (k0_off5_inb c) I.k) (hd _ (k0_off5_inb c) I.v))
    (k0_pay36 v286 v287 (hd _ (k0_off6_inb c) I.k) (hd _ (k0_off6_inb c) I.v))
    (k0_pay38 v287 (k0_pay37 v286) (hd _ (k0_off7_inb c) I.k) (hd _ (k0_off7_inb c) I.v))
    (k0_pay39 v286 v287 (hd _ (k0_off8_inb c) I.k) (hd _ (k0_off8_inb c) I.v))
    (k0_pay40 v286) (hd _ (k0_off9_inb c) I.k) (hd _ (k0_off9_inb c) I.v)

/-- The second batch's first slab: kept, and added to what lands. -/
def m0 : FVec F S256x768 .f32 :=
  let v479 := k0_pay42 (wqL I) (x2 c I)
  let v480 := k0_pay43 (F := F) mask
  k0_pay60 (woL I) v479 v480
    (k0_pay47 (k0_pay44 (hd _ (k0_off11_inb c) I.v)) (k0_pay45 (wqL I) mask (x2 c I) (hd _ (k0_off11_inb c) I.k)) (k0_pay46 (wqL I) mask (x2 c I) (hd _ (k0_off11_inb c) I.k)))
    (k0_pay48 v479 v480 (hd _ (k0_off12_inb c) I.k) (hd _ (k0_off12_inb c) I.v))
    (k0_pay51 v480 (k0_pay49 (hd _ (k0_off13_inb c) I.v)) (k0_pay50 v479 (hd _ (k0_off13_inb c) I.k)))
    (k0_pay52 v479 v480 (hd _ (k0_off14_inb c) I.k) (hd _ (k0_off14_inb c) I.v))
    (k0_pay56 v480 (k0_pay53 v479) (k0_pay54 (hd _ (k0_off15_inb c) I.k)) (k0_pay55 (hd _ (k0_off15_inb c) I.v)))
    (k0_pay57 v479 v480 (hd _ (k0_off16_inb c) I.k) (hd _ (k0_off16_inb c) I.v))
    (k0_pay58 v479) (k0_pay59 (hd _ (k0_off17_inb c) I.k)) (hd _ (k0_off17_inb c) I.v) (hd _ (k0_off18_inb c) I.k) (hd _ (k0_off18_inb c) I.v)

/-- The second batch's second slab. -/
def m1 : FVec F S256x768 .f32 :=
  let v730 := k0_pay66 (wqL I) (x3 c I)
  let v731 := k0_pay67 (F := F) mask
  k0_pay82 (woL I) v730 v731
    (k0_pay70 v731 (k0_pay68 (hd _ (k0_off11_inb c) I.v)) (k0_pay69 (wqL I) (x3 c I) (hd _ (k0_off11_inb c) I.k)))
    (k0_pay71 v730 v731 (hd _ (k0_off12_inb c) I.k) (hd _ (k0_off12_inb c) I.v))
    (k0_pay74 v731 (k0_pay72 (hd _ (k0_off13_inb c) I.v)) (k0_pay73 v730 (hd _ (k0_off13_inb c) I.k)))
    (k0_pay75 v730 v731 (hd _ (k0_off14_inb c) I.k) (hd _ (k0_off14_inb c) I.v))
    (k0_pay78 v731 (k0_pay76 (hd _ (k0_off15_inb c) I.v)) (k0_pay77 v730 (hd _ (k0_off15_inb c) I.k)))
    (k0_pay79 v730 v731 (hd _ (k0_off16_inb c) I.k) (hd _ (k0_off16_inb c) I.v))
    (k0_pay80 (hd _ (k0_off17_inb c) I.v)) (k0_pay81 v730 (hd _ (k0_off17_inb c) I.k)) (hd _ (k0_off18_inb c) I.k) (hd _ (k0_off18_inb c) I.v)

/-! ## The chunks -/

/-- Rows `128 r ..` of a stored slab. -/
def rows (w : FVec F S1x256x768 .bf16) (r : Fin 2) : FVec F S1x128x768 .bf16 :=
  ld (Val := Elt F) (e' := .bf16) w (Rect.unit (s := S1x256x768) ![0, 128 * r.val, 0] S1x128x768.size (by intro a; have := r.isLt; fin_cases a <;> simp <;> omega))

variable (X : Dev nD → In F)

/-- What device `d` sends in the first stage: its first batch's rows. -/
def c0 (k : Fin 4) (d : Dev nD) : FVec F S1x128x768 .bf16 :=
  match k with
  | 0 => rows (w0 d (X d)) 0 | 1 => rows (w0 d (X d)) 1 | 2 => rows (w1 d (X d)) 0 | 3 => rows (w1 d (X d)) 1
/-- Its second batch's rows, the first partner's added. -/
def acc (k : Fin 4) (d : Dev nD) : FVec F S128x768 .f32 :=
  match k with
  | 0 => k0_pay61 (m0 d (X d)) (c0 X 0 (p1 d)) | 1 => k0_pay63 (m0 d (X d)) (c0 X 1 (p1 d))
  | 2 => k0_pay83 (m1 d (X d)) (c0 X 2 (p1 d)) | 3 => k0_pay85 (m1 d (X d)) (c0 X 3 (p1 d))
/-- What it sends in the second stage. -/
def c1 (k : Fin 4) (d : Dev nD) : FVec F S1x128x768 .bf16 :=
  match k with
  | 0 => k0_pay62 (m0 d (X d)) (c0 X 0 (p1 d)) | 1 => k0_pay65 (k0_pay64 (m0 d (X d)) (c0 X 1 (p1 d)))
  | 2 => k0_pay84 (m1 d (X d)) (c0 X 2 (p1 d)) | 3 => k0_pay86 (m1 d (X d)) (c0 X 3 (p1 d))
/-- The rows summed over all four devices. -/
def red (k : Fin 4) (d : Dev nD) : FVec F S128x768 .f32 :=
  match k with
  | 0 => k0_pay87 (acc X 0 d) (c1 X 0 (p2 d)) | 1 => k0_pay89 (acc X 1 d) (c1 X 1 (p2 d))
  | 2 => k0_pay91 (acc X 2 d) (c1 X 2 (p2 d)) | 3 => k0_pay93 (acc X 3 d) (c1 X 3 (p2 d))
/-- What it sends in the third stage. -/
def c2 (k : Fin 4) (d : Dev nD) : FVec F S1x128x768 .bf16 :=
  match k with
  | 0 => k0_pay88 (acc X 0 d) (c1 X 0 (p2 d)) | 1 => k0_pay90 (acc X 1 d) (c1 X 1 (p2 d))
  | 2 => k0_pay92 (acc X 2 d) (c1 X 2 (p2 d)) | 3 => k0_pay95 (k0_pay94 (acc X 3 d) (c1 X 3 (p2 d)))
/-- The chunk device `d` sends in stage `s` as its `k`th. -/
def cv (s : Fin 3) (k : Fin 4) (d : Dev nD) : FVec F S1x128x768 .bf16 :=
  match s with
  | 0 => c0 X k d | 1 => c1 X k d | 2 => c2 X k d

/-- The rows of the result a device stores from its own sum. -/
def ownRows (k : Fin 4) (d : Dev nD) : FVec F S128x768 .bf16 :=
  match k with
  | 0 => k0_pay96 (red X 0 d) | 1 => k0_pay97 (red X 1 d) | 2 => k0_pay98 (red X 2 d) | 3 => k0_pay99 (red X 3 d)
/-- The whole batch a device takes over from its first partner: the four chunks that land in the third stage. -/
def landedRows (d : Dev nD) : FVec F S1x512x768 .bf16 := fun i =>
  cv X 2 ⟨(i 1).val / 128, by have := (i 1).isLt; simp at this; omega⟩ (p1 d)
    (ix3 0 ⟨(i 1).val % 128, Nat.mod_lt _ (by decide)⟩ (i 2))

/-- The result device `d` leaves: rows of the batch it took over, and of the one it summed. -/
def outAt (d : Dev nD) : FVec F S1024x768 .bf16 := fun i =>
  if (i 0).val / 512 = fb d then k0_pay1 (landedRows X d) (ix2 ⟨(i 0).val % 512, Nat.mod_lt _ (by decide)⟩ (i 1))
  else ownRows X ⟨(i 0).val % 512 / 128, by have := Nat.mod_lt (i 0).val (show 512 > 0 by decide); omega⟩ d
    (ix2 ⟨(i 0).val % 128, Nat.mod_lt _ (by decide)⟩ (i 1))

end Cert.KernelIdeal.P

end
-- ==== Proof.Proto.lean ====
/-
  The exchange's protocol: its semaphore cells, the views its copies move, what each landing hands over, what each device
  owes, and one rule per kind of statement the kernel makes (signal, wait, start a copy, wait for it, load and store).

  Per device: a barrier cell, waited on once for the two partners' units; for every stage `s` of three and chunk `k` of four a
  SEND cell, credited by the device's own copy, which hands the chunk of the send buffer back, and a RECEIVE cell, credited by
  the stage's partner's copy, which hands over the chunk of the receive buffer holding what the partner sent. A barrier unit
  from a partner hands over that partner's receive chunks of the stages in which the two exchange.
  Waits: the barrier owing all twelve copies, a receive cell of stage `s` owing only copies of later stages, a send cell (level 0)
  anything.
-/
module

public import proofs.«01_k».proof.Proof.Vals
public import proofs.«01_k».proof.Proof.Gen.KernelIdeal.Launch
public import proofs.«01_k».proof.Proof.Gen.KernelIdeal.Points
public import Idealize.ShloMosaic.Lib.Rounds
public import Idealize.ShloMosaic.Lib.Pipeline.RegionTalk
public import Idealize.ShloMosaic.Lib.Tactic

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

/-- The resource algebra: the pipeline library's copy and the exchange's. -/
abbrev UB : Type := Rounds.URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Views and cells -/

abbrev sbM : Memref sig .tc .vmem S3x512x768 .bf16 := Memref.whole cc0_scratch0
abbrev rbM : Memref sig .tc .vmem S3x512x768 .bf16 := Memref.whole cc0_scratch1

/-- Chunk `k` of stage `s`: 128 rows. -/
abbrev off (s : Fin 3) (k : Fin 4) : Fin 3 → Nat := ![s.val, 128 * k.val, 0]
/-- Every chunk lies inside the buffers. -/
theorem off_inb : ∀ (s : Fin 3) (k : Fin 4), ∀ a, off s k a + S1x128x768.size a ≤ S3x512x768.size a := by decide
abbrev chunkRect (s : Fin 3) (k : Fin 4) : Rect S3x512x768 := Rect.unit (s := S3x512x768) (off s k) S1x128x768.size (off_inb s k)
abbrev sbC (s : Fin 3) (k : Fin 4) : Memref sig .tc .vmem S1x128x768 .bf16 := sbM.slice (chunkRect s k) (fun _ => rfl)
abbrev rbC (s : Fin 3) (k : Fin 4) : Memref sig .tc .vmem S1x128x768 .bf16 := rbM.slice (chunkRect s k) (fun _ => rfl)
abbrev sv (s : Fin 3) (k : Fin 4) : Memref sig .tc .vmem S128x768 .bf16 := (sbC s k).squeeze S128x768 squeezes_S1x128x768_S128x768
abbrev rv (s : Fin 3) (k : Fin 4) : Memref sig .tc .vmem S128x768 .bf16 := (rbC s k).squeeze S128x768 squeezes_S1x128x768_S128x768

abbrev soff (s : Fin 3) (k : Fin 4) : Fin 2 → Nat := ![s.val, k.val]
/-- Every copy's semaphore lies inside its array. -/
theorem soff_inb : ∀ (s : Fin 3) (k : Fin 4), ∀ a, soff s k a + S1x1.size a ≤ S3x4.size a := by decide
abbrev sndS (s : Fin 3) (k : Fin 4) : DmaSem sig :=
  ((cc0_scratch2.slice (Rect.unit (s := S3x4) (soff s k) S1x1.size (soff_inb s k))).squeeze S_ squeezes_S1x1_S_).sem
abbrev rcvS (s : Fin 3) (k : Fin 4) : DmaSem sig :=
  ((cc0_scratch3.slice (Rect.unit (s := S3x4) (soff s k) S1x1.size (soff_inb s k))).squeeze S_ squeezes_S1x1_S_).sem

abbrev barCell (c : Dev nD) : GSem nD τ sig := ((c : Thread nD τ), .reg barrier0)
abbrev sndCell (c : Dev nD) (s : Fin 3) (k : Fin 4) : GSem nD τ sig := ((c : Thread nD τ), .dma (sndS s k))
abbrev rcvCell (c : Dev nD) (s : Fin 3) (k : Fin 4) : GSem nD τ sig := ((c : Thread nD τ), .dma (rcvS s k))

/-- Which of the exchange's cells a DMA semaphore is: `false` a send cell, `true` a receive cell. -/
def dk (j : DmaSem sig) : Option (Bool × Fin 3 × Fin 4) :=
  if j.val < 6 then none
  else if h : j.val < 18 then some (false, ⟨(j.val - 6) / 4, by omega⟩, ⟨(j.val - 6) % 4, Nat.mod_lt _ (by decide)⟩)
  else some (true, ⟨(j.val - 18) / 4 % 3, Nat.mod_lt _ (by decide)⟩, ⟨(j.val - 18) % 4, Nat.mod_lt _ (by decide)⟩)

/-- A send semaphore is recognised by its stage and chunk. -/
theorem dk_snd : ∀ (s : Fin 3) (k : Fin 4), dk (sndS s k) = some (false, s, k) := by decide
/-- A receive semaphore is recognised by its stage and chunk. -/
theorem dk_rcv : ∀ (s : Fin 3) (k : Fin 4), dk (rcvS s k) = some (true, s, k) := by decide

/-- What one chunk's copy credits. -/
abbrev N : ℕ := (rv 0 0).view.dmaCredit
/-- A chunk's copy credits something. -/
theorem N_pos : 0 < N := View.dmaCredit_pos _ (by decide)

/-! ## Points-tos of the chunks -/

/-- Device `c`'s chunk of the send buffer, of the receive buffer, at contents `f` of the whole buffer. -/
def sbP (c : Dev nD) (s : Fin 3) (k : Fin 4) (f : Buf (Elt F) ((sbC s k).view.loc (c : Thread nD τ))) : sProp 𝕄 :=
  (sbC s k).view.loc (c : Thread nD τ) ↦[(sbC s k).view.set]{fullShare} f
def rbP (c : Dev nD) (s : Fin 3) (k : Fin 4) (f : Buf (Elt F) ((rbC s k).view.loc (c : Thread nD τ))) : sProp 𝕄 :=
  (rbC s k).view.loc (c : Thread nD τ) ↦[(rbC s k).view.set]{fullShare} f

instance sbP_storable (c : Dev nD) (s : Fin 3) (k : Fin 4) (f : Buf (Elt F) ((sbC s k).view.loc (c : Thread nD τ))) :
    BI.Storable (upEmb : UEmb _ 𝕄) (sbP c s k f) := by unfold sbP; infer_instance
instance rbP_storable (c : Dev nD) (s : Fin 3) (k : Fin 4) (f : Buf (Elt F) ((rbC s k).view.loc (c : Thread nD τ))) :
    BI.Storable (upEmb : UEmb _ 𝕄) (rbP c s k f) := by unfold rbP; infer_instance

def sbAny (c : Dev nD) (s : Fin 3) (k : Fin 4) : sProp 𝕄 := iprop(∃ f, sbP c s k f)
def rbAny (c : Dev nD) (s : Fin 3) (k : Fin 4) : sProp 𝕄 := iprop(∃ f, rbP c s k f)
def sbIs (c : Dev nD) (s : Fin 3) (k : Fin 4) (w : FVec F S1x128x768 .bf16) : sProp 𝕄 :=
  iprop(∃ f, ⌜(sbC s k).view.read (Elt F) f = w⌝ ∗ sbP c s k f)
def rbIs (c : Dev nD) (s : Fin 3) (k : Fin 4) (w : FVec F S1x128x768 .bf16) : sProp 𝕄 :=
  iprop(∃ f, ⌜(rbC s k).view.read (Elt F) f = w⌝ ∗ rbP c s k f)

/-- A send chunk with known contents is a send chunk. -/
theorem sbIs_any (c : Dev nD) (s : Fin 3) (k : Fin 4) (w : FVec F S1x128x768 .bf16) : sbIs c s k w ⊢ (sbAny c s k : sProp 𝕄) := by
  unfold sbIs sbAny; iintro ⟨%f, -, H⟩; iexists f; iexact H
/-- A receive chunk with known contents is a receive chunk. -/
theorem rbIs_any (c : Dev nD) (s : Fin 3) (k : Fin 4) (w : FVec F S1x128x768 .bf16) : rbIs c s k w ⊢ (rbAny c s k : sProp 𝕄) := by
  unfold rbIs rbAny; iintro ⟨%f, -, H⟩; iexists f; iexact H

/-! ## The schedule -/

variable (X : Dev nD → In F)

/-- What a partner's barrier unit hands over for one of its receive chunks: the chunk, and that its receive cell is open. -/
def dst (c : Dev nD) (s : Fin 3) (k : Fin 4) : sProp 𝕄 := iprop(rbAny (peer s c) s k ∗ reached ER (rcvCell (peer s c) s k) 0)
/-- The same for a whole stage. -/
def dsts (c : Dev nD) (s : Fin 3) : sProp 𝕄 := iprop(dst c s 0 ∗ dst c s 1 ∗ dst c s 2 ∗ dst c s 3)
/-- Barrier unit `b` (`false`: the first partner's, `true`: the second's). -/
def barPay (c : Dev nD) (b : Bool) : sProp 𝕄 := if b then dsts c 1 else iprop(dsts c 0 ∗ dsts c 2)

def dmaPay (c : Dev nD) : Option (Bool × Fin 3 × Fin 4) → sProp 𝕄
  | none => iprop(emp)
  | some (false, s, k) => sbAny c s k
  | some (true, s, k) => rbIs c s k (cv X s k (peer s c))

/-- One round on every cell. -/
def rd : Rounds.Schedule (GSem nD τ sig) Bool 𝕄 where
  duties g r := if r = 0 ∧ g.1.2 = .tc then (match g.2 with | .reg _ => {false, true} | .dma j => if (dk j).isSome then {false} else ∅) else ∅
  unitless _ := False
  amount g _ _ := match g.2 with | .reg _ => 1 | .dma _ => N
  payload g _ b := match g.2 with | .reg _ => barPay g.1.1 b | .dma j => dmaPay X g.1.1 (dk j)
  amount_pos g _ _ _ := by
    rcases g with ⟨t, _ | _⟩
    · exact Nat.one_pos
    · exact N_pos

instance sbAny_storable (c : Dev nD) (s : Fin 3) (k : Fin 4) : BI.Storable (upEmb : UEmb _ 𝕄) (sbAny (F := F) c s k) := by
  unfold sbAny; infer_instance
instance rbIs_storable (c : Dev nD) (s : Fin 3) (k : Fin 4) (w : FVec F S1x128x768 .bf16) :
    BI.Storable (upEmb : UEmb _ 𝕄) (rbIs c s k w) := by
  unfold rbIs; infer_instance
instance dst_storable (c : Dev nD) (s : Fin 3) (k : Fin 4) : BI.Storable (upEmb : UEmb _ 𝕄) (dst (F := F) c s k) := by
  unfold dst rbAny; infer_instance
instance barPay_storable (c : Dev nD) (b : Bool) : BI.Storable (upEmb : UEmb _ 𝕄) (barPay (F := F) c b) := by
  unfold barPay dsts; split <;> infer_instance
instance dmaPay_storable (c : Dev nD) (o : Option (Bool × Fin 3 × Fin 4)) : BI.Storable (upEmb : UEmb _ 𝕄) (dmaPay X c o) := by
  rcases o with _ | ⟨_ | _, s, k⟩
  · show BI.Storable _ (iprop(emp)); infer_instance
  · exact sbAny_storable c s k
  · exact rbIs_storable c s k _
instance rd_payload_storable (g : GSem nD τ sig) (r : ℕ) (d : Bool) : BI.Storable (upEmb : UEmb _ 𝕄) ((rd X).payload g r d) := by
  rcases g with ⟨t, _ | j⟩
  · exact barPay_storable t.1 d
  · exact dmaPay_storable X t.1 (dk j)

section Sched

variable (c : Dev nD) (s : Fin 3) (k : Fin 4)

/-- The barrier cell expects one unit from each partner. -/
theorem duties_bar : (rd X).duties (barCell c) 0 = {false, true} := rfl
/-- A send cell expects one credit. -/
theorem duties_snd : (rd X).duties (sndCell c s k) 0 = {false} := by
  show (if (dk (sndS s k)).isSome then {false} else ∅) = _; rw [dk_snd]; rfl
/-- A receive cell expects one credit. -/
theorem duties_rcv : (rd X).duties (rcvCell c s k) 0 = {false} := by
  show (if (dk (rcvS s k)).isSome then {false} else ∅) = _; rw [dk_rcv]; rfl
/-- No cell is used a second time. -/
theorem duties_later (g : GSem nD τ sig) : ∀ r, 1 ≤ r → (rd X).duties g r = ∅ :=
  fun r hr => by dsimp only [rd]; rw [if_neg (fun h => by omega)]
/-- Both barrier units are expected. -/
theorem mem_bar (b : Bool) : b ∈ (rd X).duties (barCell c) 0 := by rw [duties_bar]; cases b <;> decide
/-- The send credit is expected. -/
theorem mem_snd : false ∈ (rd X).duties (sndCell c s k) 0 := by rw [duties_snd]; exact Finset.mem_singleton_self _
/-- The receive credit is expected. -/
theorem mem_rcv : false ∈ (rd X).duties (rcvCell c s k) 0 := by rw [duties_rcv]; exact Finset.mem_singleton_self _
/-- A barrier signal is one unit. -/
theorem amount_bar (b : Bool) : (rd X).amount (barCell c) 0 b = 1 := rfl
/-- A send credit is one chunk's. -/
theorem amount_snd (b : Bool) : (rd X).amount (sndCell c s k) 0 b = N := rfl
/-- A receive credit is one chunk's. -/
theorem amount_rcv (b : Bool) : (rd X).amount (rcvCell c s k) 0 b = N := rfl
/-- What a barrier unit hands over: the signalling partner's receive chunks. -/
theorem payload_bar (b : Bool) : (rd X).payload (barCell c) 0 b = barPay c b := rfl
/-- What a send credit hands back: the chunk, to be written again. -/
theorem payload_snd : (rd X).payload (sndCell c s k) 0 false = sbAny c s k := by
  show dmaPay X c (dk (sndS s k)) = _; rw [dk_snd]; rfl
/-- What a receive credit hands over: the chunk, with what the partner sent. -/
theorem payload_rcv : (rd X).payload (rcvCell c s k) 0 false = rbIs c s k (cv X s k (peer s c)) := by
  show dmaPay X c (dk (rcvS s k)) = _; rw [dk_rcv]; rfl
/-- The barrier wait is for two units. -/
theorem expect_bar : (rd X).expect (barCell c) 0 = 2 := by
  unfold Schedule.expect Schedule.amountOf; rw [duties_bar]; rfl
/-- A send wait is for one chunk. -/
theorem expect_snd : (rd X).expect (sndCell c s k) 0 = N := by
  unfold Schedule.expect Schedule.amountOf; rw [duties_snd, Finset.sum_singleton, amount_snd]
/-- A receive wait is for one chunk. -/
theorem expect_rcv : (rd X).expect (rcvCell c s k) 0 = N := by
  unfold Schedule.expect Schedule.amountOf; rw [duties_rcv, Finset.sum_singleton, amount_rcv]
/-- All that the barrier wait brings. -/
theorem rest_bar : bigSep ((rd X).duties (barCell c) 0 \ ∅) (fun u => (rd X).payload (barCell c) 0 u) = iprop(barPay c false ∗ barPay c true) := by
  rw [Finset.sdiff_empty, duties_bar, bigSep_insert (by decide), bigSep_singleton]; rfl
/-- All that a send wait brings. -/
theorem rest_snd : bigSep ((rd X).duties (sndCell c s k) 0 \ ∅) (fun u => (rd X).payload (sndCell c s k) 0 u) = sbAny c s k := by
  rw [Finset.sdiff_empty, duties_snd, bigSep_singleton, payload_snd]
/-- All that a receive wait brings. -/
theorem rest_rcv : bigSep ((rd X).duties (rcvCell c s k) 0 \ ∅) (fun u => (rd X).payload (rcvCell c s k) 0 u)
    = rbIs c s k (cv X s k (peer s c)) := by
  rw [Finset.sdiff_empty, duties_rcv, bigSep_singleton, payload_rcv]

end Sched

/-! ## What a device owes; the levels -/

/-- The copies of the list still owed: each its partner's receive cell. -/
def rem (c : Dev nD) : List (Fin 3 × Fin 4) → CellTallies nD τ sig Unit
  | [] => 0
  | (s, k) :: l => rem c l + tallyAt (rcvCell (peer s c) s k) () N

/-- All twelve copies, in the order they start. -/
abbrev all12 : List (Fin 3 × Fin 4) :=
  [(0, 0), (0, 1), (0, 2), (0, 3), (1, 0), (1, 1), (1, 2), (1, 3), (2, 0), (2, 1), (2, 2), (2, 3)]

/-- At launch: the twelve copies and a unit to each partner's barrier. -/
def O₀ (c : Dev nD) : CellTallies nD τ sig Unit :=
  rem c all12 + tallyAt (barCell (p2 c)) () 1 + tallyAt (barCell (p1 c)) () 1

def L (g : GSem nD τ sig) : Finset Unit := if g.1.2 = .tc then {()} else ∅
/-- Send and staging cells at 0, barriers at 1, receive cells of stage `s` at `2 + s`. -/
def lvS : SemLoc sig → ℕ
  | .reg _ => 1
  | .dma j => match dk j with | some (true, s, _) => 2 + s.val | _ => 0
def lv (g : GSem nD τ sig) (_ : Unit) : ℕ := lvS g.2

/-- Only the TensorCore's cells have a level. -/
theorem L_of_ne (g : GSem nD τ sig) (h : g.1.2 ≠ .tc) : L g = ∅ := if_neg h
/-- Each TensorCore cell has one level. -/
theorem L_tc (c : Dev nD) (sm : SemLoc sig) : L ((c : Thread nD τ), sm) = {()} := if_pos rfl
/-- Receive cells lie above the barrier, a later stage's above an earlier one's. -/
theorem lv_rcv (c : Dev nD) (s : Fin 3) (k : Fin 4) (u : Unit) : lv (rcvCell c s k) u = 2 + s.val := by
  show (match dk (rcvS s k) with | some (true, s, _) => 2 + s.val | _ => 0) = _; rw [dk_rcv]
/-- Send cells lie lowest. -/
theorem lv_snd (c : Dev nD) (s : Fin 3) (k : Fin 4) (u : Unit) : lv (sndCell c s k) u = 0 := by
  show (match dk (sndS s k) with | some (true, s, _) => 2 + s.val | _ => 0) = _; rw [dk_snd]
/-- The barrier cells lie between. -/
theorem lv_bar (c : Dev nD) (u : Unit) : lv (barCell c) u = 1 := rfl

/-- What is owed is owed to the receive cell of a copy still on the list. -/
theorem rem_pos (c : Dev nD) (l : List (Fin 3 × Fin 4)) (g : GSem nD τ sig) (u : Unit) (h : 0 < rem c l g u) :
    ∃ e ∈ l, g = rcvCell (peer e.1 c) e.1 e.2 := by
  induction l with
  | nil => exact absurd h (Nat.lt_irrefl 0)
  | cons e l ih =>
    rcases e with ⟨s, k⟩
    have h' : 0 < rem c l g u + tallyAt (rcvCell (peer s c) s k) () N g u := h
    rw [tallyAt_apply] at h'
    by_cases hg : g = rcvCell (peer s c) s k ∧ u = ()
    · exact ⟨_, List.mem_cons_self, hg.1⟩
    · rw [if_neg hg, Nat.add_zero] at h'
      obtain ⟨e, he, hge⟩ := ih h'
      exact ⟨e, List.mem_cons_of_mem _ he, hge⟩

/-- A wait at level `n` may be made while every copy owed is of a stage whose receive cells are above it. -/
theorem mayWait (c : Dev nD) (sm : SemLoc sig) (n : ℕ) (l : List (Fin 3 × Fin 4)) (hn : lvS sm ≤ n) (hl : ∀ e ∈ l, n < 2 + e.1.val) :
    (levAts L lv : sProp 𝕄) ⊢ MayWait (c : Thread nD τ) sm () (rem c l) :=
  MayOwe.of_cut (L := L) (lev := lv) n (fun p hp => by rw [Finset.mem_singleton.mp hp, L_tc]; exact Finset.mem_singleton_self _)
    (fun g u hg => by
      obtain ⟨e, _, rfl⟩ := rem_pos c l g u hg
      rw [L_tc]; exact Finset.mem_singleton_self _)
    (fun p hp => by rw [Finset.mem_singleton.mp hp]; exact hn)
    (fun g u hg => by
      obtain ⟨e, he, rfl⟩ := rem_pos c l g u hg
      rw [lv_rcv]; exact hl e he)

end Cert.KernelIdeal.P

end
-- ==== Proof.Comm.lean ====
/-
  The rules the body is run by, one per kind of statement: the two barrier signals and the barrier wait, the start of a copy,
  the wait for its send side and for its receive side, loads and stores of chunks and slabs of the exchange's two buffers, loads
  of the staged inputs, stores of the staged output.
-/
module

public import proofs.«01_k».proof.Proof.Proto
public import Idealize.ShloMosaic.Lib.ViewIndex

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

variable (X : Dev nD → In F)

/-! ## The records -/

abbrev CK : Type := Bool × Fin 3 × Fin 4
def osem (e : CK) : SemLoc sig := .dma (if e.1 then rcvS e.2.1 e.2.2 else sndS e.2.1 e.2.2)
/-- The copies' semaphores are distinct. -/
theorem osem_inj : Function.Injective osem := by decide
/-- No copy uses the barrier's semaphore. -/
theorem osem_ne_bar : ∀ e : CK, osem e ≠ .reg barrier0 := fun e h => by cases h

def barEmb : Dev nD ↪ GSem nD τ sig := ⟨fun c => barCell c, fun _ _ h => congrArg (fun g : GSem nD τ sig => g.1.1) h⟩
def scEmb : Dev nD × CK ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- What every device may consult: the cells' invariants at the names the launch gave them, the barrier cells open, the levels. -/
def env (K : GSem nD τ sig → ℕ) : sProp 𝕄 :=
  iprop((bigSep (barCells ∪ scCells) fun g => cellInv ER (rd X) (K g) g) ∗ (bigSep barCells fun g => reached ER g 0) ∗ levAts L lv)

instance env_persistent (K : GSem nD τ sig → ℕ) : BI.Persistent (env X K) := by unfold env; infer_instance

variable (K : GSem nD τ sig → ℕ)

/-- The barrier cells are among the cells of the protocol. -/
theorem bar_mem (c : Dev nD) : barCell c ∈ (barCells ∪ scCells : Finset (GSem nD τ sig)) :=
  Finset.mem_union_left _ (Finset.mem_map_of_mem barEmb (Finset.mem_univ c))
/-- The send cells are among the cells of the protocol. -/
theorem snd_mem (c : Dev nD) (s : Fin 3) (k : Fin 4) : sndCell c s k ∈ (barCells ∪ scCells : Finset (GSem nD τ sig)) :=
  Finset.mem_union_right _ (Finset.mem_map_of_mem scEmb (Finset.mem_univ (c, (false, s, k))))
/-- The receive cells are among the cells of the protocol. -/
theorem rcv_mem (c : Dev nD) (s : Fin 3) (k : Fin 4) : rcvCell c s k ∈ (barCells ∪ scCells : Finset (GSem nD τ sig)) :=
  Finset.mem_union_right _ (Finset.mem_map_of_mem scEmb (Finset.mem_univ (c, (true, s, k))))

/-- Every cell's invariant may be consulted. -/
theorem env_inv {g : GSem nD τ sig} (hg : g ∈ (barCells ∪ scCells : Finset (GSem nD τ sig))) : env X K ⊢ cellInv ER (rd X) (K g) g := by
  have h : (bigSep (barCells ∪ scCells) fun g => (cellInv ER (rd X) (K g) g : sProp 𝕄)) ⊢ cellInv ER (rd X) (K g) g := bigSep_elim hg
  unfold env; iintro ⟨H, -, -⟩; iapply h; iexact H
/-- Every barrier cell is open. -/
theorem env_bar (c : Dev nD) : env X K ⊢ reached ER (barCell c) 0 := by
  have h : (bigSep barCells fun g => (reached ER g 0 : sProp 𝕄)) ⊢ reached ER (barCell c) 0 :=
    bigSep_elim (Finset.mem_map_of_mem barEmb (Finset.mem_univ c))
  unfold env; iintro ⟨-, H, -⟩; iapply h; iexact H
/-- The levels are known. -/
theorem env_lev : env X K ⊢ levAts L lv := by
  unfold env; iintro ⟨-, -, H⟩; iexact H

/-- A cell whose one round is over reads zero. -/
theorem close (κ : ℕ) (g : GSem nD τ sig) :
    iprop(cellInv ER (rd X) κ g ∗ atPos ER g (0 + 1) ∅ 0) ⊢ (|={Set.univ}=> semVal g 0 : sProp 𝕄) :=
  Rounds.cell_close ER (rd X) (Set.mem_univ κ) id (duties_later X g)

/-! ## What a device holds -/

/-- The copies of the list still owed, at whatever waits are recorded. -/
def ow (c : Dev nD) (l : List (Fin 3 × Fin 4)) : sProp 𝕄 := iprop(∃ W, owes (c : Thread nD τ) (rem c l) W)
/-- The two duties a copy pays. -/
def tk (c : Dev nD) (s : Fin 3) (k : Fin 4) : sProp 𝕄 :=
  iprop(dutyTok ER (sndCell c s k) 0 false ∗ reached ER (sndCell c s k) 0 ∗ dutyTok ER (rcvCell (peer s c) s k) 0 false)
/-- What the receive wait spends, the send wait's position, and the send wait's credit. -/
def wr (c : Dev nD) (s : Fin 3) (k : Fin 4) : sProp 𝕄 := iprop(atPos ER (rcvCell c s k) 0 ∅ 0 ∗ cred (tallyAt (rcvCell c s k) () N))
def ws (c : Dev nD) (s : Fin 3) (k : Fin 4) : sProp 𝕄 := atPos ER (sndCell c s k) 0 ∅ 0
def cs (c : Dev nD) (s : Fin 3) (k : Fin 4) : sProp 𝕄 := cred (tallyAt (sndCell c s k) () N)
/-- The two counters, at zero. -/
def zs (c : Dev nD) (s : Fin 3) (k : Fin 4) : sProp 𝕄 := semVal (sndCell c s k) 0
def zr (c : Dev nD) (s : Fin 3) (k : Fin 4) : sProp 𝕄 := semVal (rcvCell c s k) 0

section Rules

variable (c : Dev nD)

/-! ## The barrier -/

/-- What the device hands each of its partners: its own receive chunks of the stages they exchange in. -/
def give (c : Dev nD) (s : Fin 3) (k : Fin 4) : sProp 𝕄 := iprop(rbAny c s k ∗ reached ER (rcvCell c s k) 0)
def handed (c : Dev nD) (s : Fin 3) : sProp 𝕄 := iprop(give c s 0 ∗ give c s 1 ∗ give c s 2 ∗ give c s 3)

/-- What a device may write at its partner is what that partner handed over, chunk by chunk. -/
theorem dst_peer (s : Fin 3) (k : Fin 4) : (dst (peer s c) s k : sProp 𝕄) = give c s k := by
  unfold dst give; rw [peer_peer]
/-- What a device may write at its partner in one stage is what that partner handed over. -/
theorem dsts_peer (s : Fin 3) : (dsts (peer s c) s : sProp 𝕄) = handed c s := by
  unfold dsts handed; simp only [dst_peer]

/-- The first signal: to the partner of stages 0 and 2. -/
theorem wp_sig1 (n : Dev nD) (hn : n = p1 c) {α : Type} {Q : α → sProp 𝕄} {k : PUnit → Prog (TpuEff nD τ sig (Elt F) Λ₀ .tc) α} (sm : Sem sig) (hsm : sm = barrier0) (amt : ℕ) (ha : amt = 1) (W : Waits sig Unit) :
    iprop(env X K ∗ owes (c : Thread nD τ) (O₀ c) W ∗ dutyTok ER (barCell (p1 c)) 0 false ∗ handed c 0 ∗ handed c 2)
      ⊢ iprop((owes (c : Thread nD τ) (rem c all12 + tallyAt (barCell (p2 c)) () 1) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm amt) k) Q) := by
  subst hn hsm ha
  have e0 : (dsts (p1 c) 0 : sProp 𝕄) = handed c 0 := dsts_peer c 0
  have e2 : (dsts (p1 c) 2 : sProp 𝕄) = handed c 2 := dsts_peer c 2
  iintro ⟨#HE, HO, Ht, H0, H2⟩ Hk
  iapply (Rounds.wp_signal 𝒱₀ ER (rd X) (c : Thread nD τ) none (dst := (p1 c : Thread nD τ)) (sem := barrier0) (r := 0) (d := false)
    (κ := K (barCell (p1 c))) (mem_bar X (p1 c) false) (amount_bar X (p1 c) false) () (rem c all12 + tallyAt (barCell (p2 c)) () 1) rfl)
    $$ [HO Ht H0 H2]
  · isplitr; · iapply (env_inv X K (bar_mem (p1 c))); iexact HE
    isplitl [HO]; · iexact HO
    isplitl [Ht]; · iexact Ht
    isplitl [H0 H2]
    · rw [payload_bar]; unfold barPay; rw [if_neg (by decide), e0, e2]
      isplitl [H0] <;> iassumption
    iapply (env_bar X K (p1 c)); iexact HE
  iexact Hk

/-- The second signal: to the partner of stage 1. -/
theorem wp_sig2 (n : Dev nD) (hn : n = p2 c) {α : Type} {Q : α → sProp 𝕄} {k : PUnit → Prog (TpuEff nD τ sig (Elt F) Λ₀ .tc) α} (sm : Sem sig) (hsm : sm = barrier0) (amt : ℕ) (ha : amt = 1) (W : Waits sig Unit) :
    iprop(env X K ∗ owes (c : Thread nD τ) (rem c all12 + tallyAt (barCell (p2 c)) () 1) W ∗ dutyTok ER (barCell (p2 c)) 0 true ∗ handed c 1)
      ⊢ iprop((owes (c : Thread nD τ) (rem c all12) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) sm amt) k) Q) := by
  subst hn hsm ha
  have e1 : (dsts (p2 c) 1 : sProp 𝕄) = handed c 1 := dsts_peer c 1
  iintro ⟨#HE, HO, Ht, H1⟩ Hk
  iapply (Rounds.wp_signal 𝒱₀ ER (rd X) (c : Thread nD τ) none (dst := (p2 c : Thread nD τ)) (sem := barrier0) (r := 0) (d := true)
    (κ := K (barCell (p2 c))) (mem_bar X (p2 c) true) (amount_bar X (p2 c) true) () (rem c all12) rfl)
    $$ [HO Ht H1]
  · isplitr; · iapply (env_inv X K (bar_mem (p2 c))); iexact HE
    isplitl [HO]; · iexact HO
    isplitl [Ht]; · iexact Ht
    isplitl [H1]
    · rw [payload_bar]; unfold barPay; rw [if_pos (by decide), e1]; iexact H1
    iapply (env_bar X K (p2 c)); iexact HE
  iexact Hk

/-- The barrier wait: both partners' receive chunks. -/
theorem wp_bar {α : Type} {Q : α → sProp 𝕄} {k : PUnit → Prog (TpuEff nD τ sig (Elt F) Λ₀ .tc) α} (sm : Sem sig) (hsm : sm = barrier0) (amt : ℕ) (ha : amt = 2) (W : Waits sig Unit) :
    iprop(env X K ∗ owes (c : Thread nD τ) (rem c all12) W ∗ atPos ER (barCell c) 0 ∅ 0 ∗ cred (tallyAt (barCell c) () 2))
      ⊢ iprop(((ow c all12 ∗ dsts c 0 ∗ dsts c 1 ∗ dsts c 2 ∗ semVal (barCell c) 0) -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm amt) k) Q) := by
  subst hsm ha
  iintro ⟨#HE, HO, Hat, Hc⟩ Hk
  iapply (Rounds.wp_wait_rest_token 𝒱₀ ER (rd X) (c : Thread nD τ) none (κ := K (barCell c))
      (wpE_semWait_eq 𝒱₀ (c : Thread nD τ) none Set.univ) (Set.mem_univ _) () (O := rem c all12) (W := W) (R := 0) (m := 0) (T := ∅)
      ((Nat.zero_add 2).trans (expect_bar X c).symm)) $$ [HO Hat Hc]
  · isplitr; · iapply (env_inv X K (bar_mem c)); iexact HE
    isplitl [Hc]; · iexact Hc
    isplitl [HO]; · iexact HO
    isplitr
    · iapply (mayWait c (.reg barrier0) 1 all12 le_rfl (fun e _ => by omega)); iapply (env_lev X K); iexact HE
    iexact Hat
  iintro ⟨HO, Hat, -, Hpay⟩
  ihave Hp := (Entails.of_eq (rest_bar X c)) $$ Hpay
  unfold barPay
  rw [if_neg (by decide), if_pos (by decide)]
  icases Hp with ⟨⟨H0, H2⟩, H1⟩
  imod (close X (K (barCell c)) (barCell c)) $$ [Hat] with Hz
  · isplitr; · iapply (env_inv X K (bar_mem c)); iexact HE
    iexact Hat
  iapply Hk
  isplitl [HO]; · unfold ow; iexists _; iexact HO
  isplitl [H0]; · iexact H0
  isplitl [H1]; · iexact H1
  isplitl [H2]; · iexact H2
  iexact Hz

/-! ## The copies -/

/-- A copy's source is its send chunk. -/
theorem sv_set (s : Fin 3) (k : Fin 4) : (sv s k).view.set = (sbC s k).view.set := View.set_reshape _ _
/-- A copy's destination is its receive chunk. -/
theorem rv_set (s : Fin 3) (k : Fin 4) : (rv s k).view.set = (rbC s k).view.set := View.set_reshape _ _

/-- The source's credit is one chunk's. -/
theorem credit_sv (s : Fin 3) (k : Fin 4) : (sv s k).view.dmaCredit = N := rfl
/-- The destination's credit is one chunk's. -/
theorem credit_rv (s : Fin 3) (k : Fin 4) : (rv s k).view.dmaCredit = N := rfl

/-- What the partner's chunk reads after the copy: the sent chunk. -/
theorem landed (s : Fin 3) (k : Fin 4) (fs : (cc0_scratch0 : Ref sig .tc).ty.Contents (Elt F)) (fd : (cc0_scratch1 : Ref sig .tc).ty.Contents (Elt F)) :
    (rbC s k).view.read (Elt F) ((rv s k).view.write (Elt F) fd ((sv s k).view.read (Elt F) fs) Finset.univ)
      = (sbC s k).view.read (Elt F) fs := by
  funext x
  obtain ⟨y, rfl⟩ := (Shape.reshapeEquiv (squeezes_S1x128x768_S128x768.numel_eq)).surjective x
  exact View.read_write_reshape _ _ _ _ _

/-- START of a copy: pays the send duty with the chunk and the partner's receive duty with what the chunk holds. -/
theorem wp_start (s : Fin 3) (k : Fin 4) (l : List (Fin 3 × Fin 4)) (n : Dev nD) (hn : n = peer s c)
    {hsc : (rv s k).view.ref.isScScratch = false}
    {hsrc : (sv s k).view.WordExact} {hdst : (rv s k).view.WordExact}
    {hsem : DmaTarget.Typed .vmem (.dma (rcvS s k)) (.remote (Dev.tc n : Thread nD τ) (rv s k) (.dma (sndS s k)) hsc)}
    {α : Type} {Q : α → sProp 𝕄} {kk : PUnit → Prog (TpuEff nD τ sig (Elt F) Λ₀ .tc) α} :
    iprop(env X K ∗ tk c s k ∗ dst c s k ∗ sbIs c s k (cv X s k c) ∗ ow c ((s, k) :: l))
      ⊢ iprop(((cs c s k ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.enqueueDma (sv s k) (.remote (Dev.tc n : Thread nD τ) (rv s k) (.dma (sndS s k)) hsc) (.dma (rcvS s k)) hsrc hdst hsem) kk) Q) := by
  subst hn
  unfold tk dst sbIs ow rbAny
  iintro ⟨#HE, ⟨Ht1, #Hr1, Ht2⟩, ⟨⟨%fd, Hd⟩, #Hr2⟩, ⟨%fs, %hfs, Hs⟩, ⟨%W, HO⟩⟩ Hk
  iapply (Rounds.wp_send_pointsTo 𝒱₀ ER (rd X) (c : Thread nD τ) none (c' := (peer s c : Thread nD τ)) (src := sv s k) (dst := rv s k)
      (sS := .dma (sndS s k)) (sem := .dma (rcvS s k)) (q := fullShare) (fs := fs) (κ₁ := K (sndCell c s k)) (κ₂ := K (rcvCell (peer s c) s k))
      (r₁ := 0) (r₂ := 0) (d₁ := false) (d₂ := false) (fd := fd)
      (mem_snd X c s k) (mem_rcv X (peer s c) s k)
      () () N rfl (amount_snd X c s k false) (amount_rcv X (peer s c) s k false) (rem c l) rfl (W := W)
      (by rw [payload_snd, sv_set]; unfold sbAny sbP; iintro H; iexists fs; iexact H)
      (by
        rw [payload_rcv, rv_set, peer_peer]; unfold rbIs rbP; iintro H
        iexists _; isplitr
        · ipureintro; exact (landed s k fs fd).trans hfs
        iexact H)) $$ [Ht1 Ht2 Hd Hs HO]
  · isplitr; · iapply (env_inv X K (snd_mem c s k)); iexact HE
    isplitr; · iapply (env_inv X K (rcv_mem (peer s c) s k)); iexact HE
    isplitl [Hs]; · unfold sbP; rw [sv_set]; iexact Hs
    isplitl [Hd]; · unfold rbP; rw [rv_set]; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · unfold cs; iexact Hc
  iexists W; iexact HO

/-- WAIT for a copy's send side: the chunk of the send buffer comes back. -/
theorem wp_wsnd (s : Fin 3) (k : Fin 4) (l : List (Fin 3 × Fin 4)) {α : Type} {Q : α → sProp 𝕄} {kk : PUnit → Prog (TpuEff nD τ sig (Elt F) Λ₀ .tc) α}
    {hsrc : (rv s k).view.WordExact} {hdst : (sv s k).view.WordExact} :
    iprop(env X K ∗ ws c s k ∗ cs c s k ∗ ow c l)
      ⊢ iprop(((sbAny c s k ∗ zs c s k ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sndS s k) (rv s k) (sv s k) hsrc hdst) kk) Q) := by
  unfold ws cs ow
  iintro ⟨#HE, Hat, Hc, ⟨%W, HO⟩⟩ Hk
  iapply (Rounds.wp_wait_rest_token 𝒱₀ ER (rd X) (c : Thread nD τ) none (κ := K (sndCell c s k))
      (wpE_waitDma2_eq (hsrc := hsrc) (hdst := hdst) 𝒱₀ (c : Thread nD τ) none Set.univ) (Set.mem_univ _) () (O := rem c l) (W := W) (R := 0) (m := 0) (T := ∅)
      ((Nat.zero_add _).trans ((credit_sv s k).trans (expect_snd X c s k).symm))) $$ [HO Hat Hc]
  · isplitr; · iapply (env_inv X K (snd_mem c s k)); iexact HE
    isplitl [Hc]; · iexact Hc
    isplitl [HO]; · iexact HO
    isplitr
    · iapply (mayWait c (.dma (sndS s k)) 0 l (le_of_eq (lv_snd c s k ())) (fun e _ => by omega)); iapply (env_lev X K); iexact HE
    iexact Hat
  iintro ⟨HO, Hat, -, Hpay⟩
  ihave Hp := (Entails.of_eq (rest_snd X c s k)) $$ Hpay
  imod (close X (K (sndCell c s k)) (sndCell c s k)) $$ [Hat] with Hz
  · isplitr; · iapply (env_inv X K (snd_mem c s k)); iexact HE
    iexact Hat
  iapply Hk
  isplitl [Hp]; · iexact Hp
  isplitl [Hz]; · unfold zs; iexact Hz
  iexists _; iexact HO

/-- WAIT for a copy's receive side: the chunk of the receive buffer, at what the partner sent. -/
theorem wp_wrcv (s : Fin 3) (k : Fin 4) (l : List (Fin 3 × Fin 4)) (hl : ∀ e ∈ l, s.val < e.1.val) {α : Type} {Q : α → sProp 𝕄} {kk : PUnit → Prog (TpuEff nD τ sig (Elt F) Λ₀ .tc) α}
    {hsrc : (sv s k).view.WordExact} {hdst : (rv s k).view.WordExact} :
    iprop(env X K ∗ wr c s k ∗ ow c l)
      ⊢ iprop(((rbIs c s k (cv X s k (peer s c)) ∗ zr c s k ∗ ow c l) -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (rcvS s k) (sv s k) (rv s k) hsrc hdst) kk) Q) := by
  unfold wr ow
  iintro ⟨#HE, ⟨Hat, Hc⟩, ⟨%W, HO⟩⟩ Hk
  iapply (Rounds.wp_wait_rest_token 𝒱₀ ER (rd X) (c : Thread nD τ) none (κ := K (rcvCell c s k))
      (wpE_waitDma2_eq (hsrc := hsrc) (hdst := hdst) 𝒱₀ (c : Thread nD τ) none Set.univ) (Set.mem_univ _) () (O := rem c l) (W := W) (R := 0) (m := 0) (T := ∅)
      ((Nat.zero_add _).trans ((credit_rv s k).trans (expect_rcv X c s k).symm))) $$ [HO Hat Hc]
  · isplitr; · iapply (env_inv X K (rcv_mem c s k)); iexact HE
    isplitl [Hc]; · iexact Hc
    isplitl [HO]; · iexact HO
    isplitr
    · iapply (mayWait c (.dma (rcvS s k)) (2 + s.val) l (le_of_eq (lv_rcv c s k ())) (fun e he => by have := hl e he; omega))
      iapply (env_lev X K); iexact HE
    iexact Hat
  iintro ⟨HO, Hat, -, Hpay⟩
  ihave Hp := (Entails.of_eq (rest_rcv X c s k)) $$ Hpay
  imod (close X (K (rcvCell c s k)) (rcvCell c s k)) $$ [Hat] with Hz
  · isplitr; · iapply (env_inv X K (rcv_mem c s k)); iexact HE
    iexact Hat
  iapply Hk
  isplitl [Hp]; · iexact Hp
  isplitl [Hz]; · unfold zr; iexact Hz
  iexists _; iexact HO

end Rules

end Cert.KernelIdeal.P

end
-- ==== Proof.Mem.lean ====
/-
  Loads and stores of the body: chunks and slabs of the exchange's two buffers, the staged inputs, the staged output.
-/
module

public import proofs.«01_k».proof.Proof.Comm
public import Idealize.ShloMosaic.Lib.Pipeline.ValueKit.Geometry

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

variable (X : Dev nD → In F)

/-! ## Where the chunks lie -/

/-- An index of the exchange's buffers lies in chunk `k` of stage `s`. -/
theorem mem_chunk (s : Fin 3) (k : Fin 4) (i : S3x512x768.Idx) :
    i ∈ (chunkRect s k).set ↔ (i 0).val = s.val ∧ (i 1).val / 128 = k.val := by
  rw [Rect.mem_set_unit]
  have h0 := (i 0).isLt; have h1 := (i 1).isLt; have h2 := (i 2).isLt
  have := s.isLt; have := k.isLt
  constructor
  · intro h
    have a := h 0; have b := h 1
    simp at a b h0 h1 h2
    omega
  · rintro ⟨a, b⟩ x
    fin_cases x <;> simp at h0 h1 h2 ⊢ <;> omega

/-- A slab of a stage's first or second half: two chunks. -/
abbrev slabRect (a : Fin 2) : Rect S3x512x768 := Rect.unit (s := S3x512x768) ![0, 256 * a.val, 0] S1x256x768.size (by revert a; decide)
/-- An index lies in a slab where its row does. -/
theorem mem_slab (a : Fin 2) (i : S3x512x768.Idx) : i ∈ (slabRect a).set ↔ (i 0).val = 0 ∧ (i 1).val / 256 = a.val := by
  rw [Rect.mem_set_unit]
  have h0 := (i 0).isLt; have h1 := (i 1).isLt; have h2 := (i 2).isLt
  have := a.isLt
  constructor
  · intro h
    have a := h 0; have b := h 1
    simp at a b h0 h1 h2
    omega
  · rintro ⟨a, b⟩ x
    fin_cases x <;> simp at h0 h1 h2 ⊢ <;> omega

abbrev lo (a : Fin 2) : Fin 4 := ⟨2 * a.val, by omega⟩
abbrev hi (a : Fin 2) : Fin 4 := ⟨2 * a.val + 1, by omega⟩

/-- A slab is two chunks. -/
theorem slab_union (a : Fin 2) : (slabRect a).set = (chunkRect 0 (lo a)).set ∪ (chunkRect 0 (hi a)).set := by
  ext i
  rw [Finset.mem_union, mem_slab, mem_chunk, mem_chunk]
  simp only [lo, hi, Fin.val_zero]
  omega

/-- Two chunks do not overlap. -/
theorem chunk_disjoint (s s' : Fin 3) (k k' : Fin 4) (h : (s, k) ≠ (s', k')) : Disjoint (chunkRect s k).set (chunkRect s' k').set := by
  rw [Finset.disjoint_left]
  intro i h1 h2
  rw [mem_chunk] at h1 h2
  exact h (Prod.ext (Fin.ext (h1.1.symm.trans h2.1)) (Fin.ext (h1.2.symm.trans h2.2)))

/-- The places of a send chunk. -/
theorem sbC_set (s : Fin 3) (k : Fin 4) : (sbC s k).view.set = (chunkRect s k).set := View.set_slice_whole cc0_scratch0 _
/-- The places of a receive chunk. -/
theorem rbC_set (s : Fin 3) (k : Fin 4) : (rbC s k).view.set = (chunkRect s k).set := View.set_slice_whole cc0_scratch1 _

section Rules

variable (c : Dev nD)

/-! ## Chunks -/

/-- A load of a send chunk whose value is not used. -/
theorem wp_lds (s : Fin 3) (k : Fin 4) (o : Fin 3 → Nat) (ho : o = off s k) (inb : ∀ a, o a + S1x128x768.size a ≤ S3x512x768.size a)
    {hl : sbM.view.LoadsAt (Rect.unit (s := S3x512x768) o S1x128x768.size inb).toLoadRect}
    {α : Type} {Q : α → sProp 𝕄} {kk : Vec F S1x128x768 .bf16 → Prog (TpuEff nD τ sig (Elt F) Λ₀ .tc) α} :
    sbAny c s k
      ⊢ iprop((∀ v, sbAny c s k -∗ wp frame (wpE (defs₀ (F := F)) 𝒱₀ (c : Thread nD τ) none) Set.univ (kk v) Q)
          -∗ wp frame (wpE (defs₀ (F := F)) 𝒱₀ (c : Thread nD τ) none) Set.univ
            (.op (.load sbM (Rect.unit (s := S3x512x768) o S1x128x768.size inb).toLoadRect hl) kk) Q) := by
  subst ho
  unfold sbAny sbP
  iintro ⟨%f, H⟩ Hk
  iapply (wp_load_rect 𝒱₀ (c : Thread nD τ) none Set.univ (m := sbM) (Finset.Subset.refl _)) $$ H
  iintro H
  iapply Hk
  iexists f; iexact H

/-- The store of a send chunk. -/
theorem wp_sts (s : Fin 3) (k : Fin 4) (o : Fin 3 → Nat) (ho : o = off s k) (inb : ∀ a, o a + S1x128x768.size a ≤ S3x512x768.size a)
    (w w' : FVec F S1x128x768 .bf16) (hw : w = w')
    {hx : (sbM.access (Rect.unit (s := S3x512x768) o S1x128x768.size inb)).Stores Finset.univ}
    {hm : (Finset.univ : Finset (Rect.unit (s := S3x512x768) o S1x128x768.size inb).shape.Idx) = Finset.univ
      ∨ ∀ a, (Rect.unit (s := S3x512x768) o S1x128x768.size inb).stride a = 1}
    {α : Type} {Q : α → sProp 𝕄} {kk : PUnit → Prog (TpuEff nD τ sig (Elt F) Λ₀ .tc) α} :
    sbAny c s k
      ⊢ iprop((sbIs c s k w' -∗ wp frame (wpE (defs₀ (F := F)) 𝒱₀ (c : Thread nD τ) none) Set.univ (kk ⟨⟩) Q)
          -∗ wp frame (wpE (defs₀ (F := F)) 𝒱₀ (c : Thread nD τ) none) Set.univ
            (.op (.store sbM (Rect.unit (s := S3x512x768) o S1x128x768.size inb) w Finset.univ hx hm) kk) Q) := by
  subst ho hw
  unfold sbAny sbP sbIs
  iintro ⟨%f, H⟩ Hk
  iapply (wp_store 𝒱₀ (c : Thread nD τ) none Set.univ (m := sbM)
    (show (sbM.access (chunkRect s k)).setOn Finset.univ ⊆ (sbC s k).view.set from Finset.Subset.refl _)) $$ H
  iintro H
  iapply Hk
  iexists ((sbM.access (chunkRect s k)).write (Elt F) f w Finset.univ); isplitr
  · ipureintro; exact View.read_write_univ (v := (sbC s k).view) (Val := Elt F) f w
  unfold sbP; iexact H

/-- The load of a landed chunk. -/
theorem wp_ldr (s : Fin 3) (k : Fin 4) (o : Fin 3 → Nat) (ho : o = off s k) (inb : ∀ a, o a + S1x128x768.size a ≤ S3x512x768.size a)
    (w : FVec F S1x128x768 .bf16)
    {hl : rbM.view.LoadsAt (Rect.unit (s := S3x512x768) o S1x128x768.size inb).toLoadRect}
    {α : Type} {Q : α → sProp 𝕄} {kk : Vec F S1x128x768 .bf16 → Prog (TpuEff nD τ sig (Elt F) Λ₀ .tc) α} :
    rbIs c s k w
      ⊢ iprop((rbIs c s k w -∗ wp frame (wpE (defs₀ (F := F)) 𝒱₀ (c : Thread nD τ) none) Set.univ (kk w) Q)
          -∗ wp frame (wpE (defs₀ (F := F)) 𝒱₀ (c : Thread nD τ) none) Set.univ
            (.op (.load rbM (Rect.unit (s := S3x512x768) o S1x128x768.size inb).toLoadRect hl) kk) Q) := by
  subst ho
  unfold rbIs rbP
  iintro ⟨%f, %hf, H⟩ Hk
  subst hf
  iapply (wp_load_rect 𝒱₀ (c : Thread nD τ) none Set.univ (m := rbM) (Finset.Subset.refl _)) $$ H
  iintro H
  iapply Hk
  iexists f; isplitr; · ipureintro; rfl
  iexact H

/-! ## Slabs -/

/-- What a chunk of a stored slab reads. -/
theorem read_slab (a r : Fin 2) (k : Fin 4) (hk : k.val = 2 * a.val + r.val) (f : (cc0_scratch0 : Ref sig .tc).ty.Contents (Elt F))
    (w : FVec F S1x256x768 .bf16) :
    (sbC 0 k).view.read (Elt F) ((sbM.access (slabRect a)).write (Elt F) f w Finset.univ) = rows w r := by
  funext x
  have e : (chunkRect 0 k).emb x = (slabRect a).emb ((Rect.unit (s := S1x256x768) ![0, 128 * r.val, 0] S1x128x768.size
      (by intro a; have := r.isLt; fin_cases a <;> simp <;> omega)).emb x) := by
    funext y
    apply Fin.ext
    fin_cases y <;> simp [Rect.emb, Rect.unit, hk] <;> omega
  have := View.read_slice_write_emb (v := View.whole cc0_scratch0) (Val := Elt F) (slabRect a) f w (M := Finset.univ)
    (x := (Rect.unit (s := S1x256x768) ![0, 128 * r.val, 0] S1x128x768.size
      (by intro a; have := r.isLt; fin_cases a <;> simp <;> omega)).emb x) (Finset.mem_univ _)
  rw [← e] at this
  exact this

/-- The store of a slab of the first stage (with the load before it, whose value is not used): its two chunks. -/
theorem wp_slab (a : Fin 2) (o : Fin 3 → Nat) (ho : o = ![0, 256 * a.val, 0]) (inb : ∀ a, o a + S1x256x768.size a ≤ S3x512x768.size a)
    (w w' : FVec F S1x256x768 .bf16) (hw : w = w')
    {hl : sbM.view.LoadsAt (Rect.unit (s := S3x512x768) o S1x256x768.size inb).toLoadRect}
    {hx : (sbM.access (Rect.unit (s := S3x512x768) o S1x256x768.size inb)).Stores Finset.univ}
    {hm : (Finset.univ : Finset (Rect.unit (s := S3x512x768) o S1x256x768.size inb).shape.Idx) = Finset.univ
      ∨ ∀ a, (Rect.unit (s := S3x512x768) o S1x256x768.size inb).stride a = 1}
    {α : Type} {Q : α → sProp 𝕄} {kk : PUnit → Prog (TpuEff nD τ sig (Elt F) Λ₀ .tc) α} :
    iprop(sbAny c 0 (lo a) ∗ sbAny c 0 (hi a))
      ⊢ iprop(((sbIs c 0 (lo a) (rows w' 0) ∗ sbIs c 0 (hi a) (rows w' 1))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load sbM (Rect.unit (s := S3x512x768) o S1x256x768.size inb).toLoadRect hl) fun _ =>
              .op (.store sbM (Rect.unit (s := S3x512x768) o S1x256x768.size inb) w Finset.univ hx hm) kk) Q) := by
  subst ho hw
  have hset : (sbM.access (slabRect a)).set = (sbC 0 (lo a)).view.set ∪ (sbC 0 (hi a)).view.set := by
    rw [sbC_set, sbC_set]; exact (View.set_slice_whole cc0_scratch0 _).trans (slab_union a)
  have hdis : Disjoint (sbC 0 (lo a)).view.set (sbC 0 (hi a)).view.set := by
    rw [sbC_set, sbC_set]; exact chunk_disjoint _ _ _ _ (fun h => by have := congrArg (fun p : Fin 3 × Fin 4 => p.2.val) h; simp at this)
  have hsub : (sbM.access (slabRect a)).set ⊆ (sbC 0 (lo a)).view.set ∪ (sbC 0 (hi a)).view.set := hset.subset
  have hj : iprop(sbAny c 0 (lo a) ∗ sbAny c 0 (hi a))
      ⊢ (iprop(∃ h : Buf (Elt F) (sbM.view.loc (c : Thread nD τ)),
          sbM.view.loc (c : Thread nD τ) ↦[(sbC 0 (lo a)).view.set ∪ (sbC 0 (hi a)).view.set]{fullShare} h) : sProp 𝕄) := by
    unfold sbAny sbP
    iintro ⟨⟨%f, H1⟩, ⟨%g, H2⟩⟩
    iexists _
    iapply (pointsTo_join (ℓ := sbM.view.loc (c : Thread nD τ)) (f := f) (g := g) hdis)
    isplitl [H1]; · iexact H1
    iexact H2
  iintro H Hk
  ihave H := hj $$ H
  icases H with ⟨%h, H⟩
  iapply (wp_load_rect 𝒱₀ (c : Thread nD τ) none Set.univ (m := sbM) hsub) $$ H
  iintro H
  iapply (wp_store 𝒱₀ (c : Thread nD τ) none Set.univ (m := sbM) hsub) $$ H
  iintro H
  ihave H' := (pointsTo_union (ℓ := sbM.view.loc (c : Thread nD τ)) hdis).1 $$ H
  icases H' with ⟨H1, H2⟩
  iapply Hk
  unfold sbIs sbP
  isplitl [H1]
  · iexists ((sbM.access (slabRect a)).write (Elt F) h w Finset.univ); isplitr
    · ipureintro; exact read_slab a 0 (lo a) rfl h w
    iexact H1
  · iexists ((sbM.access (slabRect a)).write (Elt F) h w Finset.univ); isplitr
    · ipureintro; exact read_slab a 1 (hi a) rfl h w
    iexact H2

end Rules

end Cert.KernelIdeal.P

end
-- ==== Proof.Io.lean ====
/-
  Loads of the staged inputs, loads and stores of the staged output, the load of everything that landed in the last stage, and
  the exchange's buffers cut into chunks and put together again.
-/
module

public import proofs.«01_k».proof.Proof.Mem

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

variable (X : Dev nD → In F) (c : Dev nD)

/-- A separating conjunction weakened part by part. -/
theorem bigSep_weaken {J : Type} {s : Finset J} {Φ Ψ : J → sProp 𝕄} (h : ∀ i ∈ s, Φ i ⊢ Ψ i) : bigSep s Φ ⊢ bigSep s Ψ := bigSep_mono h

/-! ## The inputs -/

/-- The five staged inputs. -/
def ins (I : In F) : sProp 𝕄 :=
  iprop(((c : Thread nD τ).loc cc0_stg0_0 ↦{fullShare} (I.x : Buf (Elt F) ((c : Thread nD τ).loc cc0_stg0_0)))
    ∗ ((c : Thread nD τ).loc cc0_stg1_0 ↦{fullShare} (I.wq : Buf (Elt F) ((c : Thread nD τ).loc cc0_stg1_0)))
    ∗ ((c : Thread nD τ).loc cc0_stg2_0 ↦{fullShare} (I.k : Buf (Elt F) ((c : Thread nD τ).loc cc0_stg2_0)))
    ∗ ((c : Thread nD τ).loc cc0_stg3_0 ↦{fullShare} (I.v : Buf (Elt F) ((c : Thread nD τ).loc cc0_stg3_0)))
    ∗ ((c : Thread nD τ).loc cc0_stg4_0 ↦{fullShare} (I.wo : Buf (Elt F) ((c : Thread nD τ).loc cc0_stg4_0))))

/-- A load from a whole buffer. -/
theorem wp_ldb {sp : CoreSpace} {s : Shape} {e : EltTy} (m : Memref sig .tc sp s e) (r : Rect s) (f : Buf (Elt F) (m.view.loc (c : Thread nD τ)))
    {hl : m.view.LoadsAt r.toLoadRect}
    {α : Type} {Q : α → sProp 𝕄} {kk : Vec F r.shape e → Prog (TpuEff nD τ sig (Elt F) Λ₀ .tc) α} :
    (m.view.loc (c : Thread nD τ) ↦{fullShare} f : sProp 𝕄)
      ⊢ iprop(((m.view.loc (c : Thread nD τ) ↦{fullShare} f)
            -∗ wp frame (wpE (defs₀ (F := F)) 𝒱₀ (c : Thread nD τ) none) Set.univ (kk (m.view.readAt (Elt F) r.toLoadRect f)) Q)
          -∗ wp frame (wpE (defs₀ (F := F)) 𝒱₀ (c : Thread nD τ) none) Set.univ (.op (.load m r.toLoadRect hl) kk) Q) :=
  wp_load 𝒱₀ (c : Thread nD τ) none Set.univ (Finset.subset_univ _)

variable (I : In F)

/-- A load of activations. -/
theorem wp_ld0 (r : Rect S1024x768) {hl : (Memref.whole cc0_stg0_0 : Memref sig .tc _ _ _).view.LoadsAt r.toLoadRect}
    {α : Type} {Q : α → sProp 𝕄} {kk : Vec F r.shape .bf16 → Prog (TpuEff nD τ sig (Elt F) Λ₀ .tc) α} :
    ins c I ⊢ iprop((ins c I -∗ wp frame (wpE (defs₀ (F := F)) 𝒱₀ (c : Thread nD τ) none) Set.univ (kk (ld I.x r)) Q)
      -∗ wp frame (wpE (defs₀ (F := F)) 𝒱₀ (c : Thread nD τ) none) Set.univ (.op (.load (Memref.whole cc0_stg0_0) r.toLoadRect hl) kk) Q) := by
  unfold ins
  iintro ⟨H0, H1, H2, H3, H4⟩ Hk
  iapply (wp_ldb c (Memref.whole cc0_stg0_0) r I.x) $$ H0
  iintro H0
  iapply Hk
  isplitl [H0]; · iexact H0
  isplitl [H1]; · iexact H1
  isplitl [H2]; · iexact H2
  isplitl [H3]; · iexact H3
  iexact H4

/-- A load of query weights. -/
theorem wp_ld1 (r : Rect S768x512) {hl : (Memref.whole cc0_stg1_0 : Memref sig .tc _ _ _).view.LoadsAt r.toLoadRect}
    {α : Type} {Q : α → sProp 𝕄} {kk : Vec F r.shape .bf16 → Prog (TpuEff nD τ sig (Elt F) Λ₀ .tc) α} :
    ins c I ⊢ iprop((ins c I -∗ wp frame (wpE (defs₀ (F := F)) 𝒱₀ (c : Thread nD τ) none) Set.univ (kk (ld I.wq r)) Q)
      -∗ wp frame (wpE (defs₀ (F := F)) 𝒱₀ (c : Thread nD τ) none) Set.univ (.op (.load (Memref.whole cc0_stg1_0) r.toLoadRect hl) kk) Q) := by
  unfold ins
  iintro ⟨H0, H1, H2, H3, H4⟩ Hk
  iapply (wp_ldb c (Memref.whole cc0_stg1_0) r I.wq) $$ H1
  iintro H1
  iapply Hk
  isplitl [H0]; · iexact H0
  isplitl [H1]; · iexact H1
  isplitl [H2]; · iexact H2
  isplitl [H3]; · iexact H3
  iexact H4

/-- A load of keys. -/
theorem wp_ld2 (r : Rect S2x8x512x64) {hl : (Memref.whole cc0_stg2_0 : Memref sig .tc _ _ _).view.LoadsAt r.toLoadRect}
    {α : Type} {Q : α → sProp 𝕄} {kk : Vec F r.shape .bf16 → Prog (TpuEff nD τ sig (Elt F) Λ₀ .tc) α} :
    ins c I ⊢ iprop((ins c I -∗ wp frame (wpE (defs₀ (F := F)) 𝒱₀ (c : Thread nD τ) none) Set.univ (kk (ld I.k r)) Q)
      -∗ wp frame (wpE (defs₀ (F := F)) 𝒱₀ (c : Thread nD τ) none) Set.univ (.op (.load (Memref.whole cc0_stg2_0) r.toLoadRect hl) kk) Q) := by
  unfold ins
  iintro ⟨H0, H1, H2, H3, H4⟩ Hk
  iapply (wp_ldb c (Memref.whole cc0_stg2_0) r I.k) $$ H2
  iintro H2
  iapply Hk
  isplitl [H0]; · iexact H0
  isplitl [H1]; · iexact H1
  isplitl [H2]; · iexact H2
  isplitl [H3]; · iexact H3
  iexact H4

/-- A load of values. -/
theorem wp_ld3 (r : Rect S2x8x512x64) {hl : (Memref.whole cc0_stg3_0 : Memref sig .tc _ _ _).view.LoadsAt r.toLoadRect}
    {α : Type} {Q : α → sProp 𝕄} {kk : Vec F r.shape .bf16 → Prog (TpuEff nD τ sig (Elt F) Λ₀ .tc) α} :
    ins c I ⊢ iprop((ins c I -∗ wp frame (wpE (defs₀ (F := F)) 𝒱₀ (c : Thread nD τ) none) Set.univ (kk (ld I.v r)) Q)
      -∗ wp frame (wpE (defs₀ (F := F)) 𝒱₀ (c : Thread nD τ) none) Set.univ (.op (.load (Memref.whole cc0_stg3_0) r.toLoadRect hl) kk) Q) := by
  unfold ins
  iintro ⟨H0, H1, H2, H3, H4⟩ Hk
  iapply (wp_ldb c (Memref.whole cc0_stg3_0) r I.v) $$ H3
  iintro H3
  iapply Hk
  isplitl [H0]; · iexact H0
  isplitl [H1]; · iexact H1
  isplitl [H2]; · iexact H2
  isplitl [H3]; · iexact H3
  iexact H4

/-- A load of output weights. -/
theorem wp_ld4 (r : Rect S512x768) {hl : (Memref.whole cc0_stg4_0 : Memref sig .tc _ _ _).view.LoadsAt r.toLoadRect}
    {α : Type} {Q : α → sProp 𝕄} {kk : Vec F r.shape .bf16 → Prog (TpuEff nD τ sig (Elt F) Λ₀ .tc) α} :
    ins c I ⊢ iprop((ins c I -∗ wp frame (wpE (defs₀ (F := F)) 𝒱₀ (c : Thread nD τ) none) Set.univ (kk (ld I.wo r)) Q)
      -∗ wp frame (wpE (defs₀ (F := F)) 𝒱₀ (c : Thread nD τ) none) Set.univ (.op (.load (Memref.whole cc0_stg4_0) r.toLoadRect hl) kk) Q) := by
  unfold ins
  iintro ⟨H0, H1, H2, H3, H4⟩ Hk
  iapply (wp_ldb c (Memref.whole cc0_stg4_0) r I.wo) $$ H4
  iintro H4
  iapply Hk
  isplitl [H0]; · iexact H0
  isplitl [H1]; · iexact H1
  isplitl [H2]; · iexact H2
  isplitl [H3]; · iexact H3
  iexact H4

/-! ## The output -/

abbrev outM : Memref sig .tc .vmem S1024x768 .bf16 := Memref.whole cc0_stg5_0

/-- The batch handed over is one of the two. -/
theorem fb_lt (c : Dev nD) : fb c < 2 := by revert c; decide

/-- The rows a device stores from its own sum, chunk `k`. -/
abbrev orow (k : Fin 4) : Rect S1024x768 := Rect.unit (s := S1024x768) ![(128 * k.val + 512) - 512 * fb c, 0] S128x768.size
  (by revert c k; decide)

/-- The output staging buffer with the first `n` of those chunks stored. -/
def oIs (n : ℕ) : sProp 𝕄 :=
  iprop(∃ f : Buf (Elt F) ((c : Thread nD τ).loc cc0_stg5_0),
    ⌜∀ k : Fin 4, k.val < n → (outM.access (orow c k)).read (Elt F) f = ownRows X k c⌝ ∗ ((c : Thread nD τ).loc cc0_stg5_0 ↦{fullShare} f))

/-- An index lies in chunk `k` of the device's own rows where its row does. -/
theorem mem_orow (k : Fin 4) (i : S1024x768.Idx) :
    i ∈ (orow c k).set ↔ (i 0).val / 512 ≠ fb c ∧ (i 0).val % 512 / 128 = k.val := by
  rw [Rect.mem_set_unit]
  have h0 := (i 0).isLt; have h1 := (i 1).isLt
  have := k.isLt; have hf := fb_lt c
  constructor
  · intro h
    have a := h 0
    simp at a h0
    omega
  · rintro ⟨a, b⟩ x
    fin_cases x <;> simp at h0 h1 ⊢ <;> omega

/-- A store of one of those chunks, with the load before it. -/
theorem wp_out (k : Fin 4) (n : ℕ) (hn : n = k.val) (o : Fin 2 → Nat) (ho : o = ![(128 * k.val + 512) - 512 * fb c, 0])
    (inb : ∀ a, o a + S128x768.size a ≤ S1024x768.size a) (w : FVec F S128x768 .bf16) (hw : w = ownRows X k c)
    {hl : outM.view.LoadsAt (Rect.unit (s := S1024x768) o S128x768.size inb).toLoadRect}
    {hx : (outM.access (Rect.unit (s := S1024x768) o S128x768.size inb)).Stores Finset.univ}
    {hm : (Finset.univ : Finset (Rect.unit (s := S1024x768) o S128x768.size inb).shape.Idx) = Finset.univ
      ∨ ∀ a, (Rect.unit (s := S1024x768) o S128x768.size inb).stride a = 1}
    {α : Type} {Q : α → sProp 𝕄} {kk : PUnit → Prog (TpuEff nD τ sig (Elt F) Λ₀ .tc) α} :
    oIs X c n
      ⊢ iprop((oIs X c (n + 1) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load outM (Rect.unit (s := S1024x768) o S128x768.size inb).toLoadRect hl) fun _ =>
              .op (.store outM (Rect.unit (s := S1024x768) o S128x768.size inb) w Finset.univ hx hm) kk) Q) := by
  subst ho hw hn
  unfold oIs
  iintro ⟨%f, %hf, H⟩ Hk
  iapply (wp_ldb c outM (orow c k) f) $$ H
  iintro H
  iapply (wp_store 𝒱₀ (c : Thread nD τ) none Set.univ (m := outM)
    (show (outM.access (orow c k)).setOn Finset.univ ⊆ Finset.univ from Finset.subset_univ _)) $$ H
  iintro H
  iapply Hk
  iexists ((outM.access (orow c k)).write (Elt F) f (ownRows X k c) Finset.univ)
  isplitr
  · ipureintro
    intro j hj
    by_cases e : j = k
    · subst e; exact View.read_write_univ (v := outM.access (orow c j)) (Val := Elt F) f (ownRows X j c)
    · have hlt : j.val < k.val := by
        have : j.val ≠ k.val := fun h => e (Fin.ext h)
        omega
      refine Eq.trans (View.read_slice_write_slice_of_disjoint (v := outM.view) (Val := Elt F) (orow c j) (orow c k) f (ownRows X k c) Finset.univ ?_) (hf j hlt)
      show Disjoint ((View.whole cc0_stg5_0).slice (orow c j)).set ((View.whole cc0_stg5_0).slice (orow c k)).set
      rw [View.set_slice_whole, View.set_slice_whole, Finset.disjoint_left]
      intro i h1 h2
      rw [mem_orow] at h1 h2
      exact e (Fin.ext (h1.2.symm.trans h2.2))
  iexact H

/-- The rows of the batch taken over. -/
abbrev trow : Rect S1024x768 := Rect.unit (s := S1024x768) ![512 * fb c, 0] S512x768.size (by revert c; decide)

/-- The four stored chunks and the landed batch make up the whole output. -/
theorem out_val (f : Buf (Elt F) ((c : Thread nD τ).loc cc0_stg5_0))
    (hf : ∀ k : Fin 4, (outM.access (orow c k)).read (Elt F) f = ownRows X k c) :
    (outM.access (trow c)).write (Elt F) f (k0_pay1 (landedRows X c)) Finset.univ = outAt X c := by
  have hlt := fb_lt c
  funext i
  have h0 := (i 0).isLt; have h1 := (i 1).isLt
  simp at h0 h1
  unfold outAt
  by_cases h : (i 0).val / 512 = fb c
  · rw [if_pos h]
    have := View.read_slice_write_emb (v := outM.view) (Val := Elt F) (trow c) f (k0_pay1 (landedRows X c)) (M := Finset.univ)
      (x := ix2 ⟨(i 0).val % 512, Nat.mod_lt _ (by decide)⟩ (i 1)) (Finset.mem_univ _)
    have hi : i = (trow c).emb (ix2 ⟨(i 0).val % 512, Nat.mod_lt _ (by decide)⟩ (i 1)) := by
      funext y
      apply Fin.ext
      fin_cases y <;> simp [Rect.emb, Rect.unit, ix2] <;> omega
    generalize (outM.access (trow c)).write (Elt F) f (k0_pay1 (landedRows X c)) Finset.univ = g at this ⊢
    rw [← this, View.read_whole, ← hi]
  · rw [if_neg h]
    have e : (i 0).val % 512 / 128 < 4 := by omega
    have := congrFun (hf ⟨(i 0).val % 512 / 128, e⟩) (ix2 ⟨(i 0).val % 128, Nat.mod_lt _ (by decide)⟩ (i 1))
    rw [← this]
    have h2 := View.read_slice_write_of_not_mem (v := outM.view) (Val := Elt F) (trow c) f (k0_pay1 (landedRows X c)) Finset.univ (y := i) (by
      intro hm
      obtain ⟨x, -, hx⟩ := Finset.mem_map.mp hm
      have hx0 := congrArg (fun j : S1024x768.Idx => (j 0).val) hx
      have hlt0 : (x 0).val < 512 := (x 0).isLt
      simp [Rect.emb, Rect.unit] at hx0
      omega)
    have h3 : (outM.access (orow c ⟨(i 0).val % 512 / 128, e⟩)).read (Elt F) f
        (ix2 ⟨(i 0).val % 128, Nat.mod_lt _ (by decide)⟩ (i 1)) = f ((orow c ⟨(i 0).val % 512 / 128, e⟩).emb
        (ix2 ⟨(i 0).val % 128, Nat.mod_lt _ (by decide)⟩ (i 1))) := rfl
    rw [h3]
    generalize (outM.access (trow c)).write (Elt F) f (k0_pay1 (landedRows X c)) Finset.univ = g at h2 ⊢
    rw [View.read_whole, View.read_whole] at h2
    rw [h2]
    congr 1
    funext y
    apply Fin.ext
    fin_cases y <;> simp [Rect.emb, Rect.unit, ix2] <;> omega

/-- The last store, with the load before it: the staged output is the device's result. -/
theorem wp_last (o : Fin 2 → Nat) (ho : o = ![512 * fb c, 0])
    (inb : ∀ a, o a + S512x768.size a ≤ S1024x768.size a)
    {hl : outM.view.LoadsAt (Rect.unit (s := S1024x768) o S512x768.size inb).toLoadRect}
    {hx : (outM.access (Rect.unit (s := S1024x768) o S512x768.size inb)).Stores Finset.univ}
    {hm : (Finset.univ : Finset (Rect.unit (s := S1024x768) o S512x768.size inb).shape.Idx) = Finset.univ
      ∨ ∀ a, (Rect.unit (s := S1024x768) o S512x768.size inb).stride a = 1}
    {α : Type} {Q : α → sProp 𝕄} {kk : PUnit → Prog (TpuEff nD τ sig (Elt F) Λ₀ .tc) α} :
    oIs X c 4
      ⊢ iprop((((c : Thread nD τ).loc cc0_stg5_0 ↦{fullShare} (outAt X c : Buf (Elt F) ((c : Thread nD τ).loc cc0_stg5_0)))
            -∗ wp frame (wpE (defs₀ (F := F)) 𝒱₀ (c : Thread nD τ) none) Set.univ (kk ⟨⟩) Q)
          -∗ wp frame (wpE (defs₀ (F := F)) 𝒱₀ (c : Thread nD τ) none) Set.univ
            (.op (.load outM (Rect.unit (s := S1024x768) o S512x768.size inb).toLoadRect hl) fun _ =>
              .op (.store outM (Rect.unit (s := S1024x768) o S512x768.size inb) (k0_pay1 (landedRows X c)) Finset.univ hx hm) kk) Q) := by
  subst ho
  unfold oIs
  iintro ⟨%f, %hf, H⟩ Hk
  iapply (wp_ldb c outM (trow c) f) $$ H
  iintro H
  iapply (wp_store 𝒱₀ (c : Thread nD τ) none Set.univ (m := outM)
    (show (outM.access (trow c)).setOn Finset.univ ⊆ Finset.univ from Finset.subset_univ _)) $$ H
  iintro H
  iapply Hk
  rw [← out_val X c f (fun k => hf k k.isLt)]
  iexact H

/-! ## What landed in the last stage -/

/-- The last stage's rows of the receive buffer. -/
abbrev lastRect : Rect S3x512x768 := Rect.unit (s := S3x512x768) ![2, 0, 0] S1x512x768.size (by decide)

/-- The last stage's chunks do not overlap. -/
theorem rb_disj : ∀ t ∈ (Finset.univ : Finset (Fin 4)), ∀ t' ∈ (Finset.univ : Finset (Fin 4)), t ≠ t' →
    Disjoint (rbC 2 t).view.set (rbC 2 t').view.set := by
  intro t _ t' _ h
  rw [rbC_set, rbC_set]
  exact chunk_disjoint _ _ _ _ (fun e => h (congrArg (fun p : Fin 3 × Fin 4 => p.2) e))

/-- The last stage's rows are its four chunks. -/
theorem last_sub : (rbM.access lastRect).set ⊆ (Finset.univ : Finset (Fin 4)).biUnion fun t => (rbC 2 t).view.set := by
  intro i hi
  have hi' : i ∈ lastRect.set := by
    have e : (rbM.access lastRect).set = lastRect.set := View.set_slice_whole cc0_scratch1 _
    rwa [e] at hi
  rw [Rect.mem_set_unit] at hi'
  have h0 := hi' 0; have h1 := hi' 1
  have hb : (i 1).val < 512 := (i 1).isLt
  simp at h0 h1
  rw [Finset.mem_biUnion]
  refine ⟨⟨(i 1).val / 128, by omega⟩, Finset.mem_univ _, ?_⟩
  rw [rbC_set, mem_chunk]
  exact ⟨by simp; omega, rfl⟩

/-- The last stage's rows read what landed in the four chunks. -/
theorem landed_val (fs : Fin 4 → Buf (Elt F) (rbM.view.loc (c : Thread nD τ))) (g : Buf (Elt F) (rbM.view.loc (c : Thread nD τ)))
    (hfs : ∀ t, (rbC 2 t).view.read (Elt F) (fs t) = cv X 2 t (p1 c))
    (hg : ∀ t ∈ (Finset.univ : Finset (Fin 4)), ∀ i ∈ (rbC 2 t).view.set, g i = fs t i) :
    (rbM.access lastRect).read (Elt F) g = landedRows X c := by
  funext x
  have h0 := (x 0).isLt; have h1 := (x 1).isLt
  simp at h0 h1
  unfold landedRows
  have e : (x 1).val / 128 < 4 := by omega
  have hv := congrFun (hfs ⟨(x 1).val / 128, e⟩) (ix3 0 ⟨(x 1).val % 128, Nat.mod_lt _ (by decide)⟩ (x 2))
  have hi : lastRect.emb x = (chunkRect 2 ⟨(x 1).val / 128, e⟩).emb (ix3 0 ⟨(x 1).val % 128, Nat.mod_lt _ (by decide)⟩ (x 2)) := by
    funext y
    apply Fin.ext
    fin_cases y <;> simp [Rect.emb, Rect.unit, ix3] <;> omega
  refine Eq.trans ?_ hv
  show g (lastRect.emb x) = fs _ ((chunkRect 2 _).emb _)
  rw [← hi]
  refine hg ⟨(x 1).val / 128, e⟩ (Finset.mem_univ _) _ ?_
  rw [rbC_set, mem_chunk]
  constructor <;> simp [Rect.emb, Rect.unit]

/-- The load of everything that landed in the last stage. -/
theorem wp_landed {inb : ∀ a, (![2, 0, 0] : Fin 3 → Nat) a + S1x512x768.size a ≤ S3x512x768.size a}
    {hl : rbM.view.LoadsAt (Rect.unit (s := S3x512x768) ![2, 0, 0] S1x512x768.size inb).toLoadRect}
    {α : Type} {Q : α → sProp 𝕄} {kk : Vec F S1x512x768 .bf16 → Prog (TpuEff nD τ sig (Elt F) Λ₀ .tc) α} :
    (bigSep Finset.univ fun t : Fin 4 => rbIs c 2 t (cv X 2 t (p1 c)))
      ⊢ iprop(((bigSep Finset.univ fun t : Fin 4 => (rbAny c 2 t : sProp 𝕄))
            -∗ wp frame (wpE (defs₀ (F := F)) 𝒱₀ (c : Thread nD τ) none) Set.univ (kk (landedRows X c)) Q)
          -∗ wp frame (wpE (defs₀ (F := F)) 𝒱₀ (c : Thread nD τ) none) Set.univ
            (.op (.load rbM (Rect.unit (s := S3x512x768) ![2, 0, 0] S1x512x768.size inb).toLoadRect hl) kk) Q) := by
  have hj : (bigSep Finset.univ fun t : Fin 4 => (rbIs c 2 t (cv X 2 t (p1 c)) : sProp 𝕄))
      ⊢ iprop(∃ g : Buf (Elt F) (rbM.view.loc (c : Thread nD τ)), ⌜(rbM.access lastRect).read (Elt F) g = landedRows X c⌝
          ∗ rbM.view.loc (c : Thread nD τ) ↦[(Finset.univ : Finset (Fin 4)).biUnion fun t => (rbC 2 t).view.set]{fullShare} g) := by
    unfold rbIs rbP
    iintro H
    ihave H := (bigSep_exists_pi (Y := fun t : Fin 4 => Buf (Elt F) ((rbC 2 t).view.loc (c : Thread nD τ))) Finset.univ _) $$ H
    icases H with ⟨%fs, H⟩
    ihave H := (BI.bigSep_pure_sep Finset.univ (fun t : Fin 4 => (rbC 2 t).view.read (Elt F) (fs t) = cv X 2 t (p1 c)) _) $$ H
    icases H with ⟨%hfs, H⟩
    ihave H := (pointsTo_biUnion_join (ℓ := rbM.view.loc (c : Thread nD τ)) Finset.univ (fun t : Fin 4 => (rbC 2 t).view.set) fs (fs 0) rb_disj) $$ H
    icases H with ⟨%g, %hg, H⟩
    iexists g
    isplitr
    · ipureintro; exact landed_val X c fs g (fun t => hfs t (Finset.mem_univ t)) hg
    iexact H
  iintro H Hk
  ihave H := hj $$ H
  icases H with ⟨%g, %hg, H⟩
  iapply (wp_load_rect 𝒱₀ (c : Thread nD τ) none Set.univ (m := rbM) (r := lastRect) last_sub) $$ H
  iintro H
  rw [hg]
  iapply Hk
  ihave H := (Entails.of_eq (pointsTo_biUnion (ℓ := rbM.view.loc (c : Thread nD τ)) Finset.univ (fun t : Fin 4 => (rbC 2 t).view.set) rb_disj)) $$ H
  iapply (bigSep_weaken (s := Finset.univ) (Φ := fun t : Fin 4 => rbM.view.loc (c : Thread nD τ) ↦[(rbC 2 t).view.set]{fullShare} g) (Ψ := fun t : Fin 4 => rbAny c 2 t) (fun t _ => by
    unfold rbAny rbP; iintro H; iexists g; iexact H))
  iexact H

/-! ## The buffers as chunks -/

/-- The twelve chunks cover a buffer. -/
theorem chunks_univ : (Finset.univ : Finset (Fin 3 × Fin 4)).biUnion (fun e => (chunkRect e.1 e.2).set) = Finset.univ := by
  ext i
  simp only [Finset.mem_biUnion, Finset.mem_univ, true_and, iff_true]
  have h0 : (i 0).val < 3 := (i 0).isLt
  have h1 : (i 1).val < 512 := (i 1).isLt
  exact ⟨(⟨(i 0).val, h0⟩, ⟨(i 1).val / 128, by omega⟩), (mem_chunk _ _ _).mpr ⟨rfl, rfl⟩⟩

/-- The twelve chunks do not overlap. -/
theorem chunks_disj : ∀ t ∈ (Finset.univ : Finset (Fin 3 × Fin 4)), ∀ t' ∈ (Finset.univ : Finset (Fin 3 × Fin 4)), t ≠ t' →
    Disjoint (chunkRect t.1 t.2).set (chunkRect t'.1 t'.2).set :=
  fun _ _ _ _ h => chunk_disjoint _ _ _ _ h

/-- The send buffer at any contents is its twelve chunks. -/
theorem sb_chunks : (iprop(∃ f : Buf (Elt F) ((c : Thread nD τ).loc cc0_scratch0), (c : Thread nD τ).loc cc0_scratch0 ↦{fullShare} f) : sProp 𝕄)
    ⊣⊢ bigSep Finset.univ fun e : Fin 3 × Fin 4 => sbAny c e.1 e.2 := by
  have hd : (fun e : Fin 3 × Fin 4 => (sbAny c e.1 e.2 : sProp 𝕄)) = fun e => iprop(∃ f : Buf (Elt F) ((c : Thread nD τ).loc cc0_scratch0),
      (c : Thread nD τ).loc cc0_scratch0 ↦[(chunkRect e.1 e.2).set]{fullShare} f) := by
    funext e; unfold sbAny sbP; rw [sbC_set]
  rw [hd]
  constructor
  · iintro ⟨%f, H⟩
    ihave H := (Entails.of_eq (congrArg (fun S => ((c : Thread nD τ).loc cc0_scratch0 ↦[S]{fullShare} f : sProp 𝕄)) chunks_univ.symm)) $$ H
    ihave H := (Entails.of_eq (pointsTo_biUnion (ℓ := (c : Thread nD τ).loc cc0_scratch0) Finset.univ (fun e : Fin 3 × Fin 4 => (chunkRect e.1 e.2).set) chunks_disj)) $$ H
    iapply (bigSep_weaken (s := Finset.univ) (Φ := fun e : Fin 3 × Fin 4 => (c : Thread nD τ).loc cc0_scratch0 ↦[(chunkRect e.1 e.2).set]{fullShare} f)
      (Ψ := fun e => iprop(∃ f : Buf (Elt F) ((c : Thread nD τ).loc cc0_scratch0), (c : Thread nD τ).loc cc0_scratch0 ↦[(chunkRect e.1 e.2).set]{fullShare} f)) (fun t _ => by
      iintro H; iexists f; iexact H))
    iexact H
  · iintro H
    ihave H := (bigSep_exists_pi (Y := fun e : Fin 3 × Fin 4 => Buf (Elt F) ((c : Thread nD τ).loc cc0_scratch0)) Finset.univ _) $$ H
    icases H with ⟨%fs, H⟩
    ihave H := (pointsTo_biUnion_join (ℓ := (c : Thread nD τ).loc cc0_scratch0) Finset.univ (fun e : Fin 3 × Fin 4 => (chunkRect e.1 e.2).set) fs (fs (0, 0)) chunks_disj (q := fullShare)) $$ H
    icases H with ⟨%g, -, H⟩
    iexists g
    rw [chunks_univ]
    iexact H

/-- The receive buffer at any contents is its twelve chunks. -/
theorem rb_chunks : (iprop(∃ f : Buf (Elt F) ((c : Thread nD τ).loc cc0_scratch1), (c : Thread nD τ).loc cc0_scratch1 ↦{fullShare} f) : sProp 𝕄)
    ⊣⊢ bigSep Finset.univ fun e : Fin 3 × Fin 4 => rbAny c e.1 e.2 := by
  have hd : (fun e : Fin 3 × Fin 4 => (rbAny c e.1 e.2 : sProp 𝕄)) = fun e => iprop(∃ f : Buf (Elt F) ((c : Thread nD τ).loc cc0_scratch1),
      (c : Thread nD τ).loc cc0_scratch1 ↦[(chunkRect e.1 e.2).set]{fullShare} f) := by
    funext e; unfold rbAny rbP; rw [rbC_set]
  rw [hd]
  constructor
  · iintro ⟨%f, H⟩
    ihave H := (Entails.of_eq (congrArg (fun S => ((c : Thread nD τ).loc cc0_scratch1 ↦[S]{fullShare} f : sProp 𝕄)) chunks_univ.symm)) $$ H
    ihave H := (Entails.of_eq (pointsTo_biUnion (ℓ := (c : Thread nD τ).loc cc0_scratch1) Finset.univ (fun e : Fin 3 × Fin 4 => (chunkRect e.1 e.2).set) chunks_disj)) $$ H
    iapply (bigSep_weaken (s := Finset.univ) (Φ := fun e : Fin 3 × Fin 4 => (c : Thread nD τ).loc cc0_scratch1 ↦[(chunkRect e.1 e.2).set]{fullShare} f)
      (Ψ := fun e => iprop(∃ f : Buf (Elt F) ((c : Thread nD τ).loc cc0_scratch1), (c : Thread nD τ).loc cc0_scratch1 ↦[(chunkRect e.1 e.2).set]{fullShare} f)) (fun t _ => by
      iintro H; iexists f; iexact H))
    iexact H
  · iintro H
    ihave H := (bigSep_exists_pi (Y := fun e : Fin 3 × Fin 4 => Buf (Elt F) ((c : Thread nD τ).loc cc0_scratch1)) Finset.univ _) $$ H
    icases H with ⟨%fs, H⟩
    ihave H := (pointsTo_biUnion_join (ℓ := (c : Thread nD τ).loc cc0_scratch1) Finset.univ (fun e : Fin 3 × Fin 4 => (chunkRect e.1 e.2).set) fs (fs (0, 0)) chunks_disj (q := fullShare)) $$ H
    icases H with ⟨%g, -, H⟩
    iexists g
    rw [chunks_univ]
    iexact H

end Cert.KernelIdeal.P

end
-- ==== Proof.Parts.lean ====
/-
  The body's parts up to the kept batch's first slab, one statement each: from what the part uses to what it leaves, continuing at
  the values it returns.
-/
module

public import proofs.«01_k».proof.Proof.Io

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

/-- A part of the body on the memrefs the kernel is run with. -/
abbrev on {β : Type 1} (f : (arg0 : Memref sig .tc .vmem S1024x768 .bf16) → arg0.IsWhole → (arg1 : Memref sig .tc .vmem S768x512 .bf16) → arg1.IsWhole →
    (arg2 : Memref sig .tc .vmem S2x8x512x64 .bf16) → arg2.IsWhole → (arg3 : Memref sig .tc .vmem S2x8x512x64 .bf16) → arg3.IsWhole →
    (arg4 : Memref sig .tc .vmem S512x768 .bf16) → arg4.IsWhole → (arg5 : Memref sig .tc .vmem S1024x768 .bf16) → arg5.IsWhole →
    (arg6 : Memref sig .tc .vmem S3x512x768 .bf16) → arg6.IsWhole → (arg7 : Memref sig .tc .vmem S3x512x768 .bf16) → arg7.IsWhole →
    DmaSems sig S3x4 → DmaSems sig S3x4 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _) cc0_scratch2 cc0_scratch3

/-- A program of device `c`'s core, run. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (X : Dev nD → In F) (K : GSem nD τ sig → ℕ) (c : Dev nD)

/-! ## Stores of the first stage's slabs -/

/-- The store of the first slab to be sent. -/
theorem wp_slab0 (o : Fin 3 → Nat) (ho : o = ![0, 0, 0]) (inb : ∀ a, o a + S1x256x768.size a ≤ S3x512x768.size a)
    (w : FVec F S1x256x768 .bf16) (hw : w = w0 c (X c))
    {hl : sbM.view.LoadsAt (Rect.unit (s := S3x512x768) o S1x256x768.size inb).toLoadRect}
    {hx : (sbM.access (Rect.unit (s := S3x512x768) o S1x256x768.size inb)).Stores Finset.univ}
    {hm : (Finset.univ : Finset (Rect.unit (s := S3x512x768) o S1x256x768.size inb).shape.Idx) = Finset.univ
      ∨ ∀ a, (Rect.unit (s := S3x512x768) o S1x256x768.size inb).stride a = 1}
    {α : Type} {Q : α → sProp 𝕄} {kk : PUnit → Prog (TpuEff nD τ sig (Elt F) Λ₀ .tc) α} :
    iprop(sbAny c 0 0 ∗ sbAny c 0 1)
      ⊢ iprop(((sbIs c 0 0 (cv X 0 0 c) ∗ sbIs c 0 1 (cv X 0 1 c)) -∗ run c (kk ⟨⟩) Q)
          -∗ run c (.op (.load sbM (Rect.unit (s := S3x512x768) o S1x256x768.size inb).toLoadRect hl) fun _ =>
              .op (.store sbM (Rect.unit (s := S3x512x768) o S1x256x768.size inb) w Finset.univ hx hm) kk) Q) :=
  wp_slab c 0 o ho inb w (w0 c (X c)) hw

/-- The store of the second slab to be sent. -/
theorem wp_slab1 (o : Fin 3 → Nat) (ho : o = ![0, 256, 0]) (inb : ∀ a, o a + S1x256x768.size a ≤ S3x512x768.size a)
    (w : FVec F S1x256x768 .bf16) (hw : w = w1 c (X c))
    {hl : sbM.view.LoadsAt (Rect.unit (s := S3x512x768) o S1x256x768.size inb).toLoadRect}
    {hx : (sbM.access (Rect.unit (s := S3x512x768) o S1x256x768.size inb)).Stores Finset.univ}
    {hm : (Finset.univ : Finset (Rect.unit (s := S3x512x768) o S1x256x768.size inb).shape.Idx) = Finset.univ
      ∨ ∀ a, (Rect.unit (s := S3x512x768) o S1x256x768.size inb).stride a = 1}
    {α : Type} {Q : α → sProp 𝕄} {kk : PUnit → Prog (TpuEff nD τ sig (Elt F) Λ₀ .tc) α} :
    iprop(sbAny c 0 2 ∗ sbAny c 0 3)
      ⊢ iprop(((sbIs c 0 2 (cv X 0 2 c) ∗ sbIs c 0 3 (cv X 0 3 c)) -∗ run c (kk ⟨⟩) Q)
          -∗ run c (.op (.load sbM (Rect.unit (s := S3x512x768) o S1x256x768.size inb).toLoadRect hl) fun _ =>
              .op (.store sbM (Rect.unit (s := S3x512x768) o S1x256x768.size inb) w Finset.univ hx hm) kk) Q) :=
  wp_slab c 1 o ho inb w (w1 c (X c)) hw

/-! ## The devices the copies name -/

/-- The first signal goes to the first partner. -/
theorem d1 : (⟨k0_dev1 c, k0_dev1_lt c⟩ : Dev nD) = p1 c := by revert c; decide
/-- The second signal goes to the second partner. -/
theorem d2 : (⟨k0_dev2 c, k0_dev2_lt c⟩ : Dev nD) = p2 c := by revert c; decide
/-- Copy 1 goes to the partner of stage 1. -/
theorem d3 : (⟨k0_dev3 c, k0_dev3_lt c⟩ : Dev nD) = peer 0 c := by revert c; decide
/-- Copy 2 goes to the partner of stage 1. -/
theorem d4 : (⟨k0_dev4 c, k0_dev4_lt c⟩ : Dev nD) = peer 0 c := by revert c; decide
/-- Copy 3 goes to the partner of stage 1. -/
theorem d5 : (⟨k0_dev5 c, k0_dev5_lt c⟩ : Dev nD) = peer 0 c := by revert c; decide
/-- Copy 4 goes to the partner of stage 1. -/
theorem d6 : (⟨k0_dev6 c, k0_dev6_lt c⟩ : Dev nD) = peer 0 c := by revert c; decide
/-- Copy 5 goes to the partner of stage 2. -/
theorem d7 : (⟨k0_dev7 c, k0_dev7_lt c⟩ : Dev nD) = peer 1 c := by revert c; decide
/-- Copy 6 goes to the partner of stage 2. -/
theorem d8 : (⟨k0_dev8 c, k0_dev8_lt c⟩ : Dev nD) = peer 1 c := by revert c; decide
/-- Copy 7 goes to the partner of stage 2. -/
theorem d9 : (⟨k0_dev9 c, k0_dev9_lt c⟩ : Dev nD) = peer 1 c := by revert c; decide
/-- Copy 8 goes to the partner of stage 2. -/
theorem d10 : (⟨k0_dev10 c, k0_dev10_lt c⟩ : Dev nD) = peer 1 c := by revert c; decide
/-- Copy 9 goes to the partner of stage 3. -/
theorem d11 : (⟨k0_dev11 c, k0_dev11_lt c⟩ : Dev nD) = peer 2 c := by revert c; decide
/-- Copy 10 goes to the partner of stage 3. -/
theorem d12 : (⟨k0_dev12 c, k0_dev12_lt c⟩ : Dev nD) = peer 2 c := by revert c; decide
/-- Copy 11 goes to the partner of stage 3. -/
theorem d13 : (⟨k0_dev13 c, k0_dev13_lt c⟩ : Dev nD) = peer 2 c := by revert c; decide
/-- Copy 12 goes to the partner of stage 3. -/
theorem d14 : (⟨k0_dev14 c, k0_dev14_lt c⟩ : Dev nD) = peer 2 c := by revert c; decide

variable (I : In F)

/-! ## The barrier and the first slab -/

/-- The barrier; the weights loaded. -/
theorem part1 (W : Waits sig Unit) {Q : (Σ' (_ : Dev nD) (_ : BitVec 32) (_ : BitVec 32) (_ : BitVec 32) (_ : BitVec 32) (_ : FVec F S768x512 .bf16) (_ : FVec F S512x768 .bf16) (_ : IVec S512x512 32) (_ : BitVec 32) (_ : IVec S512x512 32) (_ : IVec S512x512 32), BitVec 32) → sProp 𝕄} :
    iprop((env X K ∗ owes (c : Thread nD τ) (O₀ c) W ∗ dutyTok ER (barCell (p1 c)) 0 false ∗ dutyTok ER (barCell (p2 c)) 0 true
        ∗ handed c 0 ∗ handed c 1 ∗ handed c 2 ∗ atPos ER (barCell c) 0 ∅ 0 ∗ cred (tallyAt (barCell c) () 2) ∗ ins c I)
      ∗ (∀ v3 v4 v8 v9, (ow c all12 ∗ dsts c 0 ∗ dsts c 1 ∗ dsts c 2 ∗ semVal (barCell c) 0 ∗ ins c I)
          -∗ Q ⟨c, v3, v4, v8, v9, wqL I, woL I, iota .tc S512x512 32 [0] iota_S512x512_d0_w32, 64#32, k0_pay4, k0_pay5, Scalar.extui (Scalar.cmpi .sgt 64#32 0#32)⟩))
      ⊢ run c (on (k0_part1 (F := F))) Q := by
  rw [k0_part1_eq_skeleton]; unfold k0_part1_skel
  simp only [semSignalWord, semWaitWord, Prog.lift, Prog.bind_op, Prog.bind_ret, Prog.pure_eq_ret, wp_deviceId]
  iintro ⟨⟨#HE, HO, Ht1, Ht2, H0, H1, H2, Hat, Hc, HI⟩, Hk⟩
  iapply (wp_sig1 X K c _ (d1 c) _ rfl _ (by decide) W) $$ [HO Ht1 H0 H2]
  · isplitr; · iexact HE
    isplitl [HO]; · iexact HO
    isplitl [Ht1]; · iexact Ht1
    isplitl [H0]; · iexact H0
    iexact H2
  iintro HO
  iapply (wp_sig2 X K c _ (d2 c) _ rfl _ (by decide) W) $$ [HO Ht2 H1]
  · isplitr; · iexact HE
    isplitl [HO]; · iexact HO
    isplitl [Ht2]; · iexact Ht2
    iexact H1
  iintro HO
  iapply (wp_bar X K c _ rfl _ (by decide) W) $$ [HO Hat Hc]
  · isplitr; · iexact HE
    isplitl [HO]; · iexact HO
    isplitl [Hat]; · iexact Hat
    iexact Hc
  iintro ⟨HO, HD0, HD1, HD2, Hz⟩
  iapply (wp_ld1 c I _) $$ HI
  iintro HI
  iapply (wp_ld4 c I _) $$ HI
  iintro HI
  rw [wp_ret]; imodintro; iapply Hk
  isplitl [HO]; · iexact HO
  isplitl [HD0]; · iexact HD0
  isplitl [HD1]; · iexact HD1
  isplitl [HD2]; · iexact HD2
  isplitl [Hz]; · iexact Hz
  iexact HI

/-- The mask; the first slab's activations loaded. -/
theorem part2 (v8 : BitVec 32) (v19 : IVec S512x512 32) (c64 : BitVec 32) (v21 v28 : IVec S512x512 32) (v30 : BitVec 32) {Q : _ → sProp 𝕄} :
    iprop(ins c I ∗ (ins c I -∗ Q ⟨k0_pay6 (F := F) v19 c64 v21 v28 v30, k0_pay7 (x0 c I), constant S256x512 .f32 0x00000000#32⟩))
      ⊢ run c (on (k0_part2 (F := F)) c v8 v19 c64 v21 v28 v30) Q := by
  rw [k0_part2_eq_skeleton]; unfold k0_part2_skel
  simp only [Prog.lift, Prog.bind_op, Prog.bind_ret, Prog.pure_eq_ret]
  iintro ⟨HI, Hk⟩
  iapply (wp_ld0 c I _) $$ HI; iintro HI
  rw [wp_ret]; imodintro; iapply Hk; iexact HI

/-- The first slab: the queries; head 0 is computed, head 1 begun. -/
theorem part3 (v8 : BitVec 32) (v16 : FVec F S768x512 .bf16) (v71 : FVec F S512x512 .f32) (v76 : FVec F S256x768 .bf16) (cst : FVec F S256x512 .f32)
    {Q : _ → sProp 𝕄} :
    iprop(ins c I ∗ (ins c I -∗ Q ⟨k0_pay8 v16 v76 cst, k0_pay9 v71,
        k0_pay10 v16 v71 v76 cst (hd _ (k0_off2_inb c) I.k) (hd _ (k0_off2_inb c) I.v), k0_pay11 (hd _ (k0_off3_inb c) I.v),
        k0_pay12 v16 v71 v76 cst (hd _ (k0_off3_inb c) I.k), k0_pay13 v16 v71 v76 cst (hd _ (k0_off3_inb c) I.k)⟩))
      ⊢ run c (on (k0_part3 (F := F)) c v8 v16 v71 v76 cst) Q := by
  rw [k0_part3_eq_skeleton]; unfold k0_part3_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The first slab: head 1 is finished, head 2 computed, head 3 begun. -/
theorem part4 (v8 : BitVec 32) (v77 : FVec F S256x512 .f32) (v78 : FVec F S256x256 .f32) (v112 : FVec F S256x64 .bf16) (v115 : FVec F S256x256 .f32)
    (v117 : FVec F S256x1 .f32) {Q : _ → sProp 𝕄} :
    iprop(ins c I ∗ (ins c I -∗ Q ⟨k0_pay14 v112 v115 v117, k0_pay15 v77 v78 (hd _ (k0_off4_inb c) I.k) (hd _ (k0_off4_inb c) I.v),
        k0_pay16 (hd _ (k0_off5_inb c) I.v), k0_pay17 v77 (hd _ (k0_off5_inb c) I.k)⟩))
      ⊢ run c (on (k0_part4 (F := F)) c v8 v77 v78 v112 v115 v117) Q := by
  rw [k0_part4_eq_skeleton]; unfold k0_part4_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The first slab: head 3 is finished, head 4 computed, head 5 begun. -/
theorem part5 (v8 : BitVec 32) (v77 : FVec F S256x512 .f32) (v78 : FVec F S256x256 .f32) (v156 : FVec F S256x64 .bf16) (v158 : FVec F S256x256 .f32)
    {Q : _ → sProp 𝕄} :
    iprop(ins c I ∗ (ins c I -∗ Q ⟨k0_pay18 v78 v156 v158, k0_pay19 v77 v78 (hd _ (k0_off6_inb c) I.k) (hd _ (k0_off6_inb c) I.v),
        k0_pay20 v77, k0_pay21 (hd _ (k0_off7_inb c) I.k), k0_pay22 (hd _ (k0_off7_inb c) I.v)⟩))
      ⊢ run c (on (k0_part5 (F := F)) c v8 v77 v78 v156 v158) Q := by
  rw [k0_part5_eq_skeleton]; unfold k0_part5_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The first slab: head 5 is finished, head 6 computed, head 7 begun. -/
theorem part6 (v8 : BitVec 32) (v77 : FVec F S256x512 .f32) (v78 : FVec F S256x256 .f32) (v192 v196 : FVec F S256x64 .bf16) (v199 : FVec F S512x64 .bf16)
    {Q : _ → sProp 𝕄} :
    iprop(ins c I ∗ (ins c I -∗ Q ⟨k0_pay23 v78 v192 v196 v199, k0_pay24 v77 v78 (hd _ (k0_off8_inb c) I.k) (hd _ (k0_off8_inb c) I.v),
        k0_pay25 v77, k0_pay26 (hd _ (k0_off9_inb c) I.k)⟩))
      ⊢ run c (on (k0_part6 (F := F)) c v8 v77 v78 v192 v196 v199) Q := by
  rw [k0_part6_eq_skeleton]; unfold k0_part6_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  rw [wp_ret]; imodintro; iapply Hk; iexact HI

/-- The first slab is stored, and its first chunk sent. -/
theorem part7 (v3 : BitVec 32) (v18 : FVec F S512x768 .bf16) (v78 : FVec F S256x256 .f32) (v100 v122 v144 v166 v188 v210 v232 v236 v240 : FVec F S256x64 .bf16)
    (hw : k0_pay27 v18 v78 v100 v122 v144 v166 v188 v210 v232 v236 v240 (hd _ (k0_off9_inb c) (X c).v) = w0 c (X c))
    {Q : _ → sProp 𝕄} :
    iprop((env X K ∗ ins c (X c) ∗ sbAny c 0 0 ∗ sbAny c 0 1 ∗ tk c 0 0 ∗ dst c 0 0 ∗ ow c all12)
      ∗ (∀ v, (ins c (X c) ∗ cs c 0 0 ∗ sbIs c 0 1 (cv X 0 1 c) ∗ ow c (all12.drop 1)) -∗ Q v))
      ⊢ run c (on (k0_part7 (F := F)) c v3 v18 v78 v100 v122 v144 v166 v188 v210 v232 v236 v240) Q := by
  rw [k0_part7_eq_skeleton]; unfold k0_part7_skel
  simp only [Prog.lift, Prog.bind_op, Prog.bind_ret, Prog.pure_eq_ret]
  iintro ⟨⟨#HE, HI, HS0, HS1, HT, HD, HO⟩, Hk⟩
  iapply (wp_ld3 c (X c) _) $$ HI; iintro HI
  iapply (wp_slab0 X c _ rfl _ _ hw) $$ [HS0 HS1]
  · isplitl [HS0]; · iexact HS0
    iexact HS1
  iintro ⟨HS0, HS1⟩
  iapply (wp_start X K c 0 0 (all12.drop 1) _ (d3 c)) $$ [HT HD HS0 HO]
  · isplitr; · iexact HE
    isplitl [HT]; · iexact HT
    isplitl [HD]; · iexact HD
    isplitl [HS0]; · iexact HS0
    iexact HO
  iintro ⟨HC, HO⟩
  rw [wp_ret]; imodintro; iapply Hk
  isplitl [HI]; · iexact HI
  isplitl [HC]; · iexact HC
  isplitl [HS1]; · iexact HS1
  iexact HO

/-! ## The second slab -/

/-- The first slab's second chunk is sent; the second slab begins. -/
theorem part8 (v8 : BitVec 32) (v16 : FVec F S768x512 .bf16) (v71 : FVec F S512x512 .f32) (v271 : BitVec 32) {Q : _ → sProp 𝕄} :
    iprop((env X K ∗ ins c (X c) ∗ sbIs c 0 1 (cv X 0 1 c) ∗ tk c 0 1 ∗ dst c 0 1 ∗ ow c (all12.drop 1))
      ∗ ((ins c (X c) ∗ cs c 0 1 ∗ ow c (all12.drop 2)) -∗ Q ⟨k0_pay28 v16 (x1 c (X c)), k0_pay29 v71,
          k0_pay30 v16 v71 (x1 c (X c)) (hd _ (k0_off2_inb c) (X c).k) (hd _ (k0_off2_inb c) (X c).v), k0_pay31 v16 (x1 c (X c))⟩))
      ⊢ run c (on (k0_part8 (F := F)) c v8 v16 v71 v271) Q := by
  rw [k0_part8_eq_skeleton]; unfold k0_part8_skel
  simp only [Prog.lift, Prog.bind_op, Prog.bind_ret, Prog.pure_eq_ret]
  iintro ⟨⟨#HE, HI, HS1, HT, HD, HO⟩, Hk⟩
  iapply (wp_start X K c 0 1 (all12.drop 2) _ (d4 c)) $$ [HT HD HS1 HO]
  · isplitr; · iexact HE
    isplitl [HT]; · iexact HT
    isplitl [HD]; · iexact HD
    isplitl [HS1]; · iexact HS1
    iexact HO
  iintro ⟨HC, HO⟩
  iapply (wp_ld0 c (X c) _) $$ HI; iintro HI
  iapply (wp_ld2 c (X c) _) $$ HI; iintro HI
  iapply (wp_ld3 c (X c) _) $$ HI; iintro HI
  rw [wp_ret]; imodintro; iapply Hk
  isplitl [HI]; · iexact HI
  isplitl [HC]; · iexact HC
  iexact HO

/-- The second slab: heads 1 and 2 are computed, head 3 begun. -/
theorem part9 (v8 : BitVec 32) (v286 v287 : FVec F S256x512 .f32) (v310 : FVec F S256x64 .f32) {Q : _ → sProp 𝕄} :
    iprop(ins c I ∗ (ins c I -∗ Q ⟨k0_pay32 v287 v310 (hd _ (k0_off3_inb c) I.k) (hd _ (k0_off3_inb c) I.v),
        k0_pay33 v286 v287 (hd _ (k0_off4_inb c) I.k) (hd _ (k0_off4_inb c) I.v), k0_pay34 v286⟩))
      ⊢ run c (on (k0_part9 (F := F)) c v8 v286 v287 v310) Q := by
  rw [k0_part9_eq_skeleton]; unfold k0_part9_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The second slab: heads 3 and 4 are computed, head 5 begun. -/
theorem part10 (v8 : BitVec 32) (v286 v287 : FVec F S256x512 .f32) (v350 : FVec F S256x64 .f32) {Q : _ → sProp 𝕄} :
    iprop(ins c I ∗ (ins c I -∗ Q ⟨k0_pay35 v287 v350 (hd _ (k0_off5_inb c) I.k) (hd _ (k0_off5_inb c) I.v),
        k0_pay36 v286 v287 (hd _ (k0_off6_inb c) I.k) (hd _ (k0_off6_inb c) I.v), k0_pay37 v286⟩))
      ⊢ run c (on (k0_part10 (F := F)) c v8 v286 v287 v350) Q := by
  rw [k0_part10_eq_skeleton]; unfold k0_part10_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The second slab: heads 5 and 6 are computed, head 7 begun. -/
theorem part11 (v8 : BitVec 32) (v286 v287 : FVec F S256x512 .f32) (v390 : FVec F S256x64 .f32) {Q : _ → sProp 𝕄} :
    iprop(ins c I ∗ (ins c I -∗ Q ⟨k0_pay38 v287 v390 (hd _ (k0_off7_inb c) I.k) (hd _ (k0_off7_inb c) I.v),
        k0_pay39 v286 v287 (hd _ (k0_off8_inb c) I.k) (hd _ (k0_off8_inb c) I.v), k0_pay40 v286⟩))
      ⊢ run c (on (k0_part11 (F := F)) c v8 v286 v287 v390) Q := by
  rw [k0_part11_eq_skeleton]; unfold k0_part11_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The second slab is finished and stored, and its first chunk sent. -/
theorem part12 (v3 v8 : BitVec 32) (v18 : FVec F S512x768 .bf16) (v287 : FVec F S256x512 .f32) (v307 v327 v347 v367 v387 v407 v427 : FVec F S256x64 .bf16)
    (v430 : FVec F S256x64 .f32)
    (hw : k0_pay41 v18 v287 v307 v327 v347 v367 v387 v407 v427 v430 (hd _ (k0_off9_inb c) (X c).k) (hd _ (k0_off9_inb c) (X c).v) = w1 c (X c))
    {Q : _ → sProp 𝕄} :
    iprop((env X K ∗ ins c (X c) ∗ sbAny c 0 2 ∗ sbAny c 0 3 ∗ tk c 0 2 ∗ dst c 0 2 ∗ ow c (all12.drop 2))
      ∗ ((ins c (X c) ∗ cs c 0 2 ∗ sbIs c 0 3 (cv X 0 3 c) ∗ ow c (all12.drop 3)) -∗ Q ⟨⟩))
      ⊢ run c (on (k0_part12 (F := F)) c v3 v8 v18 v287 v307 v327 v347 v367 v387 v407 v427 v430) Q := by
  rw [k0_part12_eq_skeleton]; unfold k0_part12_skel
  simp only [Prog.lift, Prog.bind_op, Prog.bind_ret, Prog.pure_eq_ret]
  iintro ⟨⟨#HE, HI, HS0, HS1, HT, HD, HO⟩, Hk⟩
  iapply (wp_ld2 c (X c) _) $$ HI; iintro HI
  iapply (wp_ld3 c (X c) _) $$ HI; iintro HI
  iapply (wp_slab1 X c _ rfl _ _ hw) $$ [HS0 HS1]
  · isplitl [HS0]; · iexact HS0
    iexact HS1
  iintro ⟨HS0, HS1⟩
  iapply (wp_start X K c 0 2 (all12.drop 3) _ (d5 c)) $$ [HT HD HS0 HO]
  · isplitr; · iexact HE
    isplitl [HT]; · iexact HT
    isplitl [HD]; · iexact HD
    isplitl [HS0]; · iexact HS0
    iexact HO
  iintro ⟨HC, HO⟩
  rw [wp_ret]; imodintro; iapply Hk
  isplitl [HI]; · iexact HI
  isplitl [HC]; · iexact HC
  isplitl [HS1]; · iexact HS1
  iexact HO

/-! ## The kept batch's first slab -/

/-- The second slab's second chunk is sent; the kept batch's first slab begins. -/
theorem part13 (v3 v9 : BitVec 32) (v16 : FVec F S768x512 .bf16) (v71 : FVec F S512x512 .f32) {Q : _ → sProp 𝕄} :
    iprop((env X K ∗ ins c (X c) ∗ sbIs c 0 3 (cv X 0 3 c) ∗ tk c 0 3 ∗ dst c 0 3 ∗ ow c (all12.drop 3))
      ∗ ((ins c (X c) ∗ cs c 0 3 ∗ ow c (all12.drop 4)) -∗ Q ⟨k0_pay42 v16 (x2 c (X c)), k0_pay43 v71, k0_pay44 (hd _ (k0_off11_inb c) (X c).v),
          k0_pay45 v16 v71 (x2 c (X c)) (hd _ (k0_off11_inb c) (X c).k), k0_pay46 v16 v71 (x2 c (X c)) (hd _ (k0_off11_inb c) (X c).k)⟩))
      ⊢ run c (on (k0_part13 (F := F)) c v3 v9 v16 v71) Q := by
  rw [k0_part13_eq_skeleton]; unfold k0_part13_skel
  simp only [Prog.lift, Prog.bind_op, Prog.bind_ret, Prog.pure_eq_ret]
  iintro ⟨⟨#HE, HI, HS1, HT, HD, HO⟩, Hk⟩
  iapply (wp_start X K c 0 3 (all12.drop 4) _ (d6 c)) $$ [HT HD HS1 HO]
  · isplitr; · iexact HE
    isplitl [HT]; · iexact HT
    isplitl [HD]; · iexact HD
    isplitl [HS1]; · iexact HS1
    iexact HO
  iintro ⟨HC, HO⟩
  iapply (wp_ld0 c (X c) _) $$ HI; iintro HI
  iapply (wp_ld2 c (X c) _) $$ HI; iintro HI
  iapply (wp_ld3 c (X c) _) $$ HI; iintro HI
  rw [wp_ret]; imodintro; iapply Hk
  isplitl [HI]; · iexact HI
  isplitl [HC]; · iexact HC
  iexact HO

/-- The kept batch's first slab: head 0 is finished, head 1 computed, head 2 begun. -/
theorem part14 (v9 : BitVec 32) (v479 : FVec F S256x512 .f32) (v480 : FVec F S256x256 .f32) (v492 : FVec F S256x64 .bf16) (v495 : FVec F S256x256 .f32)
    (v497 : FVec F S256x1 .f32) {Q : _ → sProp 𝕄} :
    iprop(ins c I ∗ (ins c I -∗ Q ⟨k0_pay47 v492 v495 v497, k0_pay48 v479 v480 (hd _ (k0_off12_inb c) I.k) (hd _ (k0_off12_inb c) I.v),
        k0_pay49 (hd _ (k0_off13_inb c) I.v), k0_pay50 v479 (hd _ (k0_off13_inb c) I.k)⟩))
      ⊢ run c (on (k0_part14 (F := F)) c v9 v479 v480 v492 v495 v497) Q := by
  rw [k0_part14_eq_skeleton]; unfold k0_part14_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The kept batch's first slab: head 2 is finished, head 3 computed, head 4 begun. -/
theorem part15 (v9 : BitVec 32) (v479 : FVec F S256x512 .f32) (v480 : FVec F S256x256 .f32) (v536 : FVec F S256x64 .bf16) (v538 : FVec F S256x256 .f32)
    {Q : _ → sProp 𝕄} :
    iprop(ins c I ∗ (ins c I -∗ Q ⟨k0_pay51 v480 v536 v538, k0_pay52 v479 v480 (hd _ (k0_off14_inb c) I.k) (hd _ (k0_off14_inb c) I.v),
        k0_pay53 v479, k0_pay54 (hd _ (k0_off15_inb c) I.k), k0_pay55 (hd _ (k0_off15_inb c) I.v)⟩))
      ⊢ run c (on (k0_part15 (F := F)) c v9 v479 v480 v536 v538) Q := by
  rw [k0_part15_eq_skeleton]; unfold k0_part15_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The kept batch's first slab: head 4 is finished, head 5 computed, head 6 begun. -/
theorem part16 (v9 : BitVec 32) (v479 : FVec F S256x512 .f32) (v480 : FVec F S256x256 .f32) (v572 v576 : FVec F S256x64 .bf16) (v579 : FVec F S512x64 .bf16)
    {Q : _ → sProp 𝕄} :
    iprop(ins c I ∗ (ins c I -∗ Q ⟨k0_pay56 v480 v572 v576 v579, k0_pay57 v479 v480 (hd _ (k0_off16_inb c) I.k) (hd _ (k0_off16_inb c) I.v),
        k0_pay58 v479, k0_pay59 (hd _ (k0_off17_inb c) I.k)⟩))
      ⊢ run c (on (k0_part16 (F := F)) c v9 v479 v480 v572 v576 v579) Q := by
  rw [k0_part16_eq_skeleton]; unfold k0_part16_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  rw [wp_ret]; imodintro; iapply Hk; iexact HI

/-- The kept batch's first slab is finished. -/
theorem part17 (v9 : BitVec 32) (v18 : FVec F S512x768 .bf16) (v479 : FVec F S256x512 .f32) (v480 : FVec F S256x256 .f32)
    (v502 v524 v546 v568 v590 v612 v616 v620 : FVec F S256x64 .bf16) {Q : _ → sProp 𝕄} :
    iprop(ins c I ∗ (ins c I -∗ Q (k0_pay60 v18 v479 v480 v502 v524 v546 v568 v590 v612 v616 v620 (hd _ (k0_off17_inb c) I.v)
        (hd _ (k0_off18_inb c) I.k) (hd _ (k0_off18_inb c) I.v))))
      ⊢ run c (on (k0_part17 (F := F)) c v9 v18 v479 v480 v502 v524 v546 v568 v590 v612 v616 v620) Q := by
  rw [k0_part17_eq_skeleton]; unfold k0_part17_skel
  simp only [Prog.lift, Prog.bind_op, Prog.bind_ret, Prog.pure_eq_ret]
  iintro ⟨HI, Hk⟩
  iapply (wp_ld3 c I _) $$ HI; iintro HI
  iapply (wp_ld2 c I _) $$ HI; iintro HI
  iapply (wp_ld3 c I _) $$ HI; iintro HI
  rw [wp_ret]; imodintro; iapply Hk; iexact HI

end Cert.KernelIdeal.P

end
-- ==== Proof.Parts2.lean ====
/-
  The body's parts of the exchange: the waits for what landed, the sums, the chunks sent on, the stores of the result.
-/
module

public import proofs.«01_k».proof.Proof.Parts

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

variable (X : Dev nD → In F) (K : GSem nD τ sig → ℕ) (c : Dev nD) (I : In F)

/-! ## The first stage lands; the second starts -/

/-- The first chunk lands; its sum is stored to be sent on. -/
theorem part18 (v3 v4 : BitVec 32) {Q : _ → sProp 𝕄} :
    iprop((env X K ∗ ws c 0 0 ∗ cs c 0 0 ∗ wr c 0 0 ∗ sbAny c 1 0 ∗ ow c (all12.drop 4))
      ∗ ((sbAny c 0 0 ∗ zs c 0 0 ∗ rbIs c 0 0 (cv X 0 0 (peer 0 c)) ∗ zr c 0 0 ∗ sbIs c 1 0 (cv X 1 0 c) ∗ ow c (all12.drop 4))
        -∗ Q (k0_pay61 (m0 c (X c)) (cv X 0 0 (peer 0 c)))))
      ⊢ run c (on (k0_part18 (F := F)) v3 v4 (m0 c (X c))) Q := by
  rw [k0_part18_eq_skeleton]; unfold k0_part18_skel
  simp only [Prog.lift, Prog.bind_op, Prog.bind_ret, Prog.pure_eq_ret]
  iintro ⟨⟨#HE, HWs, HC, HWr, HS, HO⟩, Hk⟩
  iapply (wp_wsnd X K c 0 0 (all12.drop 4)) $$ [HWs HC HO]
  · isplitr; · iexact HE
    isplitl [HWs]; · iexact HWs
    isplitl [HC]; · iexact HC
    iexact HO
  iintro ⟨HA, HZ, HO⟩
  iapply (wp_wrcv X K c 0 0 (all12.drop 4) (by decide)) $$ [HWr HO]
  · isplitr; · iexact HE
    isplitl [HWr]; · iexact HWr
    iexact HO
  iintro ⟨HB, HY, HO⟩
  iapply (wp_ldr c 0 0 _ rfl _ _) $$ HB; iintro HB
  iapply (wp_lds c 1 0 _ rfl _) $$ HS; iintro %v HS
  iapply (wp_sts c 1 0 _ rfl _ _ (cv X 1 0 c) rfl) $$ HS; iintro HS
  rw [wp_ret]; imodintro; iapply Hk
  isplitl [HA]; · iexact HA
  isplitl [HZ]; · iexact HZ
  isplitl [HB]; · iexact HB
  isplitl [HY]; · iexact HY
  isplitl [HS]; · iexact HS
  iexact HO

/-- The first chunk's sum is sent on; the second chunk lands. -/
theorem part19 (v3 : BitVec 32) {Q : _ → sProp 𝕄} :
    iprop((env X K ∗ sbIs c 1 0 (cv X 1 0 c) ∗ tk c 1 0 ∗ dst c 1 0 ∗ ws c 0 1 ∗ cs c 0 1 ∗ wr c 0 1 ∗ ow c (all12.drop 4))
      ∗ ((cs c 1 0 ∗ sbAny c 0 1 ∗ zs c 0 1 ∗ rbIs c 0 1 (cv X 0 1 (peer 0 c)) ∗ zr c 0 1 ∗ ow c (all12.drop 5))
        -∗ Q ⟨k0_pay63 (m0 c (X c)) (cv X 0 1 (peer 0 c)), k0_pay64 (m0 c (X c)) (cv X 0 1 (peer 0 c))⟩))
      ⊢ run c (on (k0_part19 (F := F)) c v3 (m0 c (X c))) Q := by
  rw [k0_part19_eq_skeleton]; unfold k0_part19_skel
  simp only [Prog.lift, Prog.bind_op, Prog.bind_ret, Prog.pure_eq_ret]
  iintro ⟨⟨#HE, HS, HT, HD, HWs, HC, HWr, HO⟩, Hk⟩
  iapply (wp_start X K c 1 0 (all12.drop 5) _ (d7 c)) $$ [HT HD HS HO]
  · isplitr; · iexact HE
    isplitl [HT]; · iexact HT
    isplitl [HD]; · iexact HD
    isplitl [HS]; · iexact HS
    iexact HO
  iintro ⟨HC1, HO⟩
  iapply (wp_wsnd X K c 0 1 (all12.drop 5)) $$ [HWs HC HO]
  · isplitr; · iexact HE
    isplitl [HWs]; · iexact HWs
    isplitl [HC]; · iexact HC
    iexact HO
  iintro ⟨HA, HZ, HO⟩
  iapply (wp_wrcv X K c 0 1 (all12.drop 5) (by decide)) $$ [HWr HO]
  · isplitr; · iexact HE
    isplitl [HWr]; · iexact HWr
    iexact HO
  iintro ⟨HB, HY, HO⟩
  iapply (wp_ldr c 0 1 _ rfl _ _) $$ HB; iintro HB
  rw [wp_ret]; imodintro; iapply Hk
  isplitl [HC1]; · iexact HC1
  isplitl [HA]; · iexact HA
  isplitl [HZ]; · iexact HZ
  isplitl [HB]; · iexact HB
  isplitl [HY]; · iexact HY
  iexact HO

/-- The second chunk's sum is sent on; the kept batch's second slab begins. -/
theorem part20 (v4 v9 : BitVec 32) (v16 : FVec F S768x512 .bf16) (v71 : FVec F S512x512 .f32) (v711 : FVec F S128x768 .bf16)
    (hv : k0_pay65 v711 = cv X 1 1 c) {Q : _ → sProp 𝕄} :
    iprop((env X K ∗ ins c (X c) ∗ sbAny c 1 1 ∗ tk c 1 1 ∗ dst c 1 1 ∗ ow c (all12.drop 5))
      ∗ ((ins c (X c) ∗ cs c 1 1 ∗ ow c (all12.drop 6)) -∗ Q ⟨k0_pay66 v16 (x3 c (X c)), k0_pay67 v71, k0_pay68 (hd _ (k0_off11_inb c) (X c).v),
          k0_pay69 v16 (x3 c (X c)) (hd _ (k0_off11_inb c) (X c).k)⟩))
      ⊢ run c (on (k0_part20 (F := F)) c v4 v9 v16 v71 v711) Q := by
  rw [k0_part20_eq_skeleton]; unfold k0_part20_skel
  simp only [Prog.lift, Prog.bind_op, Prog.bind_ret, Prog.pure_eq_ret]
  iintro ⟨⟨#HE, HI, HS, HT, HD, HO⟩, Hk⟩
  iapply (wp_lds c 1 1 _ rfl _) $$ HS; iintro %v HS
  iapply (wp_sts c 1 1 _ rfl _ _ (cv X 1 1 c) hv) $$ HS; iintro HS
  iapply (wp_start X K c 1 1 (all12.drop 6) _ (d8 c)) $$ [HT HD HS HO]
  · isplitr; · iexact HE
    isplitl [HT]; · iexact HT
    isplitl [HD]; · iexact HD
    isplitl [HS]; · iexact HS
    iexact HO
  iintro ⟨HC, HO⟩
  iapply (wp_ld0 c (X c) _) $$ HI; iintro HI
  iapply (wp_ld2 c (X c) _) $$ HI; iintro HI
  iapply (wp_ld3 c (X c) _) $$ HI; iintro HI
  rw [wp_ret]; imodintro; iapply Hk
  isplitl [HI]; · iexact HI
  isplitl [HC]; · iexact HC
  iexact HO

/-! ## The kept batch's second slab -/

/-- The kept batch's second slab: head 0 is finished, head 1 computed, head 2 begun. -/
theorem part21 (v9 : BitVec 32) (v730 v731 : FVec F S256x512 .f32) (v741 : FVec F S512x64 .bf16) (v743 : FVec F S256x512 .f32) {Q : _ → sProp 𝕄} :
    iprop(ins c I ∗ (ins c I -∗ Q ⟨k0_pay70 v731 v741 v743, k0_pay71 v730 v731 (hd _ (k0_off12_inb c) I.k) (hd _ (k0_off12_inb c) I.v),
        k0_pay72 (hd _ (k0_off13_inb c) I.v), k0_pay73 v730 (hd _ (k0_off13_inb c) I.k)⟩))
      ⊢ run c (on (k0_part21 (F := F)) c v9 v730 v731 v741 v743) Q := by
  rw [k0_part21_eq_skeleton]; unfold k0_part21_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The kept batch's second slab: head 2 is finished, head 3 computed, head 4 begun. -/
theorem part22 (v9 : BitVec 32) (v730 v731 : FVec F S256x512 .f32) (v781 : FVec F S512x64 .bf16) (v783 : FVec F S256x512 .f32) {Q : _ → sProp 𝕄} :
    iprop(ins c I ∗ (ins c I -∗ Q ⟨k0_pay74 v731 v781 v783, k0_pay75 v730 v731 (hd _ (k0_off14_inb c) I.k) (hd _ (k0_off14_inb c) I.v),
        k0_pay76 (hd _ (k0_off15_inb c) I.v), k0_pay77 v730 (hd _ (k0_off15_inb c) I.k)⟩))
      ⊢ run c (on (k0_part22 (F := F)) c v9 v730 v731 v781 v783) Q := by
  rw [k0_part22_eq_skeleton]; unfold k0_part22_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The kept batch's second slab: head 4 is finished, head 5 computed, head 6 begun. -/
theorem part23 (v9 : BitVec 32) (v730 v731 : FVec F S256x512 .f32) (v821 : FVec F S512x64 .bf16) (v823 : FVec F S256x512 .f32) {Q : _ → sProp 𝕄} :
    iprop(ins c I ∗ (ins c I -∗ Q ⟨k0_pay78 v731 v821 v823, k0_pay79 v730 v731 (hd _ (k0_off16_inb c) I.k) (hd _ (k0_off16_inb c) I.v),
        k0_pay80 (hd _ (k0_off17_inb c) I.v), k0_pay81 v730 (hd _ (k0_off17_inb c) I.k)⟩))
      ⊢ run c (on (k0_part23 (F := F)) c v9 v730 v731 v821 v823) Q := by
  rw [k0_part23_eq_skeleton]; unfold k0_part23_skel
  simp only [Prog.lift, Prog.bind_op, Prog.bind_ret, Prog.pure_eq_ret]
  iintro ⟨HI, Hk⟩
  iapply (wp_ld2 c I _) $$ HI; iintro HI
  iapply (wp_ld3 c I _) $$ HI; iintro HI
  iapply (wp_ld2 c I _) $$ HI; iintro HI
  iapply (wp_ld3 c I _) $$ HI; iintro HI
  rw [wp_ret]; imodintro; iapply Hk; iexact HI

/-- The kept batch's second slab is finished. -/
theorem part24 (v9 : BitVec 32) (v18 : FVec F S512x768 .bf16) (v730 v731 : FVec F S256x512 .f32) (v751 v771 v791 v811 v831 v851 : FVec F S256x64 .bf16)
    (v861 : FVec F S512x64 .bf16) (v863 : FVec F S256x512 .f32) {Q : _ → sProp 𝕄} :
    iprop(ins c I ∗ (ins c I -∗ Q (k0_pay82 v18 v730 v731 v751 v771 v791 v811 v831 v851 v861 v863 (hd _ (k0_off18_inb c) I.k) (hd _ (k0_off18_inb c) I.v))))
      ⊢ run c (on (k0_part24 (F := F)) c v9 v18 v730 v731 v751 v771 v791 v811 v831 v851 v861 v863) Q := by
  rw [k0_part24_eq_skeleton]; unfold k0_part24_skel
  simp only [Prog.lift, Prog.bind_op, Prog.bind_ret, Prog.pure_eq_ret]
  iintro ⟨HI, Hk⟩
  iapply (wp_ld2 c I _) $$ HI; iintro HI
  iapply (wp_ld3 c I _) $$ HI; iintro HI
  rw [wp_ret]; imodintro; iapply Hk; iexact HI

/-! ## The rest of the first stage -/

/-- The third chunk lands; its sum is stored to be sent on. -/
theorem part25 (v3 v4 : BitVec 32) {Q : _ → sProp 𝕄} :
    iprop((env X K ∗ ws c 0 2 ∗ cs c 0 2 ∗ wr c 0 2 ∗ sbAny c 1 2 ∗ ow c (all12.drop 6))
      ∗ ((sbAny c 0 2 ∗ zs c 0 2 ∗ rbIs c 0 2 (cv X 0 2 (peer 0 c)) ∗ zr c 0 2 ∗ sbIs c 1 2 (cv X 1 2 c) ∗ ow c (all12.drop 6))
        -∗ Q (k0_pay83 (m1 c (X c)) (cv X 0 2 (peer 0 c)))))
      ⊢ run c (on (k0_part25 (F := F)) v3 v4 (m1 c (X c))) Q := by
  rw [k0_part25_eq_skeleton]; unfold k0_part25_skel
  simp only [Prog.lift, Prog.bind_op, Prog.bind_ret, Prog.pure_eq_ret]
  iintro ⟨⟨#HE, HWs, HC, HWr, HS, HO⟩, Hk⟩
  iapply (wp_wsnd X K c 0 2 (all12.drop 6)) $$ [HWs HC HO]
  · isplitr; · iexact HE
    isplitl [HWs]; · iexact HWs
    isplitl [HC]; · iexact HC
    iexact HO
  iintro ⟨HA, HZ, HO⟩
  iapply (wp_wrcv X K c 0 2 (all12.drop 6) (by decide)) $$ [HWr HO]
  · isplitr; · iexact HE
    isplitl [HWr]; · iexact HWr
    iexact HO
  iintro ⟨HB, HY, HO⟩
  iapply (wp_ldr c 0 2 _ rfl _ _) $$ HB; iintro HB
  iapply (wp_lds c 1 2 _ rfl _) $$ HS; iintro %v HS
  iapply (wp_sts c 1 2 _ rfl _ _ (cv X 1 2 c) rfl) $$ HS; iintro HS
  rw [wp_ret]; imodintro; iapply Hk
  isplitl [HA]; · iexact HA
  isplitl [HZ]; · iexact HZ
  isplitl [HB]; · iexact HB
  isplitl [HY]; · iexact HY
  isplitl [HS]; · iexact HS
  iexact HO

/-- The third chunk's sum is sent on; the fourth lands and its sum is stored. -/
theorem part26 (v3 : BitVec 32) {Q : _ → sProp 𝕄} :
    iprop((env X K ∗ sbIs c 1 2 (cv X 1 2 c) ∗ tk c 1 2 ∗ dst c 1 2 ∗ ws c 0 3 ∗ cs c 0 3 ∗ wr c 0 3 ∗ sbAny c 1 3 ∗ ow c (all12.drop 6))
      ∗ ((cs c 1 2 ∗ sbAny c 0 3 ∗ zs c 0 3 ∗ rbIs c 0 3 (cv X 0 3 (peer 0 c)) ∗ zr c 0 3 ∗ sbIs c 1 3 (cv X 1 3 c) ∗ ow c (all12.drop 7))
        -∗ Q (k0_pay85 (m1 c (X c)) (cv X 0 3 (peer 0 c)))))
      ⊢ run c (on (k0_part26 (F := F)) c v3 (m1 c (X c))) Q := by
  rw [k0_part26_eq_skeleton]; unfold k0_part26_skel
  simp only [Prog.lift, Prog.bind_op, Prog.bind_ret, Prog.pure_eq_ret]
  iintro ⟨⟨#HE, HS, HT, HD, HWs, HC, HWr, HS3, HO⟩, Hk⟩
  iapply (wp_start X K c 1 2 (all12.drop 7) _ (d9 c)) $$ [HT HD HS HO]
  · isplitr; · iexact HE
    isplitl [HT]; · iexact HT
    isplitl [HD]; · iexact HD
    isplitl [HS]; · iexact HS
    iexact HO
  iintro ⟨HC1, HO⟩
  iapply (wp_wsnd X K c 0 3 (all12.drop 7)) $$ [HWs HC HO]
  · isplitr; · iexact HE
    isplitl [HWs]; · iexact HWs
    isplitl [HC]; · iexact HC
    iexact HO
  iintro ⟨HA, HZ, HO⟩
  iapply (wp_wrcv X K c 0 3 (all12.drop 7) (by decide)) $$ [HWr HO]
  · isplitr; · iexact HE
    isplitl [HWr]; · iexact HWr
    iexact HO
  iintro ⟨HB, HY, HO⟩
  iapply (wp_ldr c 0 3 _ rfl _ _) $$ HB; iintro HB
  iapply (wp_lds c 1 3 _ rfl _) $$ HS3; iintro %v HS3
  iapply (wp_sts c 1 3 _ rfl _ _ (cv X 1 3 c) rfl) $$ HS3; iintro HS3
  rw [wp_ret]; imodintro; iapply Hk
  isplitl [HC1]; · iexact HC1
  isplitl [HA]; · iexact HA
  isplitl [HZ]; · iexact HZ
  isplitl [HB]; · iexact HB
  isplitl [HY]; · iexact HY
  isplitl [HS3]; · iexact HS3
  iexact HO

/-! ## The second stage lands; the third starts -/

/-- The fourth chunk's sum is sent on; the second stage's first chunk lands. -/
theorem part27 (v4 : BitVec 32) {Q : _ → sProp 𝕄} :
    iprop((env X K ∗ sbIs c 1 3 (cv X 1 3 c) ∗ tk c 1 3 ∗ dst c 1 3 ∗ ws c 1 0 ∗ cs c 1 0 ∗ wr c 1 0 ∗ ow c (all12.drop 7))
      ∗ ((cs c 1 3 ∗ sbAny c 1 0 ∗ zs c 1 0 ∗ rbIs c 1 0 (cv X 1 0 (peer 1 c)) ∗ zr c 1 0 ∗ ow c (all12.drop 8)) -∗ Q ⟨⟩))
      ⊢ run c (on (k0_part27 (F := F)) c v4) Q := by
  rw [k0_part27_eq_skeleton]; unfold k0_part27_skel
  simp only [Prog.lift, Prog.bind_op, Prog.bind_ret, Prog.pure_eq_ret]
  iintro ⟨⟨#HE, HS, HT, HD, HWs, HC, HWr, HO⟩, Hk⟩
  iapply (wp_start X K c 1 3 (all12.drop 8) _ (d10 c)) $$ [HT HD HS HO]
  · isplitr; · iexact HE
    isplitl [HT]; · iexact HT
    isplitl [HD]; · iexact HD
    isplitl [HS]; · iexact HS
    iexact HO
  iintro ⟨HC1, HO⟩
  iapply (wp_wsnd X K c 1 0 (all12.drop 8)) $$ [HWs HC HO]
  · isplitr; · iexact HE
    isplitl [HWs]; · iexact HWs
    isplitl [HC]; · iexact HC
    iexact HO
  iintro ⟨HA, HZ, HO⟩
  iapply (wp_wrcv X K c 1 0 (all12.drop 8) (by decide)) $$ [HWr HO]
  · isplitr; · iexact HE
    isplitl [HWr]; · iexact HWr
    iexact HO
  iintro ⟨HB, HY, HO⟩
  rw [wp_ret]; imodintro; iapply Hk
  isplitl [HC1]; · iexact HC1
  isplitl [HA]; · iexact HA
  isplitl [HZ]; · iexact HZ
  isplitl [HB]; · iexact HB
  isplitl [HY]; · iexact HY
  iexact HO

/-- The first chunk's total is sent third; the second chunk's send is over. -/
theorem part28 (v3 : BitVec 32) (v677 : FVec F S128x768 .f32) (hv : v677 = acc X 0 c) {Q : _ → sProp 𝕄} :
    iprop((env X K ∗ rbIs c 1 0 (cv X 1 0 (peer 1 c)) ∗ sbAny c 2 0 ∗ tk c 2 0 ∗ dst c 2 0 ∗ ws c 1 1 ∗ cs c 1 1 ∗ ow c (all12.drop 8))
      ∗ ((rbIs c 1 0 (cv X 1 0 (peer 1 c)) ∗ cs c 2 0 ∗ sbAny c 1 1 ∗ zs c 1 1 ∗ ow c (all12.drop 9)) -∗ Q (k0_pay87 (acc X 0 c) (cv X 1 0 (peer 1 c)))))
      ⊢ run c (on (k0_part28 (F := F)) c v3 v677) Q := by
  subst hv
  rw [k0_part28_eq_skeleton]; unfold k0_part28_skel
  simp only [Prog.lift, Prog.bind_op, Prog.bind_ret, Prog.pure_eq_ret]
  iintro ⟨⟨#HE, HB, HS, HT, HD, HWs, HC, HO⟩, Hk⟩
  iapply (wp_ldr c 1 0 _ rfl _ _) $$ HB; iintro HB
  iapply (wp_lds c 2 0 _ rfl _) $$ HS; iintro %v HS
  iapply (wp_sts c 2 0 _ rfl _ _ (cv X 2 0 c) rfl) $$ HS; iintro HS
  iapply (wp_start X K c 2 0 (all12.drop 9) _ (d11 c)) $$ [HT HD HS HO]
  · isplitr; · iexact HE
    isplitl [HT]; · iexact HT
    isplitl [HD]; · iexact HD
    isplitl [HS]; · iexact HS
    iexact HO
  iintro ⟨HC1, HO⟩
  iapply (wp_wsnd X K c 1 1 (all12.drop 9)) $$ [HWs HC HO]
  · isplitr; · iexact HE
    isplitl [HWs]; · iexact HWs
    isplitl [HC]; · iexact HC
    iexact HO
  iintro ⟨HA, HZ, HO⟩
  rw [wp_ret]; imodintro; iapply Hk
  isplitl [HB]; · iexact HB
  isplitl [HC1]; · iexact HC1
  isplitl [HA]; · iexact HA
  isplitl [HZ]; · iexact HZ
  iexact HO

/-- The second chunk lands in the second stage, and its total is sent. -/
theorem part29 (v3 v4 : BitVec 32) (v710 : FVec F S128x768 .f32) (hv : v710 = acc X 1 c) {Q : _ → sProp 𝕄} :
    iprop((env X K ∗ wr c 1 1 ∗ sbAny c 2 1 ∗ tk c 2 1 ∗ dst c 2 1 ∗ ow c (all12.drop 9))
      ∗ ((rbIs c 1 1 (cv X 1 1 (peer 1 c)) ∗ zr c 1 1 ∗ cs c 2 1 ∗ ow c (all12.drop 10)) -∗ Q (k0_pay89 (acc X 1 c) (cv X 1 1 (peer 1 c)))))
      ⊢ run c (on (k0_part29 (F := F)) c v3 v4 v710) Q := by
  subst hv
  rw [k0_part29_eq_skeleton]; unfold k0_part29_skel
  simp only [Prog.lift, Prog.bind_op, Prog.bind_ret, Prog.pure_eq_ret]
  iintro ⟨⟨#HE, HWr, HS, HT, HD, HO⟩, Hk⟩
  iapply (wp_wrcv X K c 1 1 (all12.drop 9) (by decide)) $$ [HWr HO]
  · isplitr; · iexact HE
    isplitl [HWr]; · iexact HWr
    iexact HO
  iintro ⟨HB, HY, HO⟩
  iapply (wp_ldr c 1 1 _ rfl _ _) $$ HB; iintro HB
  iapply (wp_lds c 2 1 _ rfl _) $$ HS; iintro %v HS
  iapply (wp_sts c 2 1 _ rfl _ _ (cv X 2 1 c) rfl) $$ HS; iintro HS
  iapply (wp_start X K c 2 1 (all12.drop 10) _ (d12 c)) $$ [HT HD HS HO]
  · isplitr; · iexact HE
    isplitl [HT]; · iexact HT
    isplitl [HD]; · iexact HD
    isplitl [HS]; · iexact HS
    iexact HO
  iintro ⟨HC1, HO⟩
  rw [wp_ret]; imodintro; iapply Hk
  isplitl [HB]; · iexact HB
  isplitl [HY]; · iexact HY
  isplitl [HC1]; · iexact HC1
  iexact HO

/-- The third chunk lands in the second stage, and its total is stored. -/
theorem part30 (v3 v4 : BitVec 32) (v912 : FVec F S128x768 .f32) (hv : v912 = acc X 2 c) {Q : _ → sProp 𝕄} :
    iprop((env X K ∗ ws c 1 2 ∗ cs c 1 2 ∗ wr c 1 2 ∗ sbAny c 2 2 ∗ ow c (all12.drop 10))
      ∗ ((sbAny c 1 2 ∗ zs c 1 2 ∗ rbIs c 1 2 (cv X 1 2 (peer 1 c)) ∗ zr c 1 2 ∗ sbIs c 2 2 (cv X 2 2 c) ∗ ow c (all12.drop 10))
        -∗ Q (k0_pay91 (acc X 2 c) (cv X 1 2 (peer 1 c)))))
      ⊢ run c (on (k0_part30 (F := F)) v3 v4 v912) Q := by
  subst hv
  rw [k0_part30_eq_skeleton]; unfold k0_part30_skel
  simp only [Prog.lift, Prog.bind_op, Prog.bind_ret, Prog.pure_eq_ret]
  iintro ⟨⟨#HE, HWs, HC, HWr, HS, HO⟩, Hk⟩
  iapply (wp_wsnd X K c 1 2 (all12.drop 10)) $$ [HWs HC HO]
  · isplitr; · iexact HE
    isplitl [HWs]; · iexact HWs
    isplitl [HC]; · iexact HC
    iexact HO
  iintro ⟨HA, HZ, HO⟩
  iapply (wp_wrcv X K c 1 2 (all12.drop 10) (by decide)) $$ [HWr HO]
  · isplitr; · iexact HE
    isplitl [HWr]; · iexact HWr
    iexact HO
  iintro ⟨HB, HY, HO⟩
  iapply (wp_ldr c 1 2 _ rfl _ _) $$ HB; iintro HB
  iapply (wp_lds c 2 2 _ rfl _) $$ HS; iintro %v HS
  iapply (wp_sts c 2 2 _ rfl _ _ (cv X 2 2 c) rfl) $$ HS; iintro HS
  rw [wp_ret]; imodintro; iapply Hk
  isplitl [HA]; · iexact HA
  isplitl [HZ]; · iexact HZ
  isplitl [HB]; · iexact HB
  isplitl [HY]; · iexact HY
  isplitl [HS]; · iexact HS
  iexact HO

/-- The third chunk's total is sent; the fourth lands in the second stage. -/
theorem part31 (v4 : BitVec 32) (v945 : FVec F S128x768 .f32) (hv : v945 = acc X 3 c) {Q : _ → sProp 𝕄} :
    iprop((env X K ∗ sbIs c 2 2 (cv X 2 2 c) ∗ tk c 2 2 ∗ dst c 2 2 ∗ ws c 1 3 ∗ cs c 1 3 ∗ wr c 1 3 ∗ ow c (all12.drop 10))
      ∗ ((cs c 2 2 ∗ sbAny c 1 3 ∗ zs c 1 3 ∗ rbIs c 1 3 (cv X 1 3 (peer 1 c)) ∗ zr c 1 3 ∗ ow c (all12.drop 11))
        -∗ Q ⟨k0_pay93 (acc X 3 c) (cv X 1 3 (peer 1 c)), k0_pay94 (acc X 3 c) (cv X 1 3 (peer 1 c))⟩))
      ⊢ run c (on (k0_part31 (F := F)) c v4 v945) Q := by
  subst hv
  rw [k0_part31_eq_skeleton]; unfold k0_part31_skel
  simp only [Prog.lift, Prog.bind_op, Prog.bind_ret, Prog.pure_eq_ret]
  iintro ⟨⟨#HE, HS, HT, HD, HWs, HC, HWr, HO⟩, Hk⟩
  iapply (wp_start X K c 2 2 (all12.drop 11) _ (d13 c)) $$ [HT HD HS HO]
  · isplitr; · iexact HE
    isplitl [HT]; · iexact HT
    isplitl [HD]; · iexact HD
    isplitl [HS]; · iexact HS
    iexact HO
  iintro ⟨HC1, HO⟩
  iapply (wp_wsnd X K c 1 3 (all12.drop 11)) $$ [HWs HC HO]
  · isplitr; · iexact HE
    isplitl [HWs]; · iexact HWs
    isplitl [HC]; · iexact HC
    iexact HO
  iintro ⟨HA, HZ, HO⟩
  iapply (wp_wrcv X K c 1 3 (all12.drop 11) (by decide)) $$ [HWr HO]
  · isplitr; · iexact HE
    isplitl [HWr]; · iexact HWr
    iexact HO
  iintro ⟨HB, HY, HO⟩
  iapply (wp_ldr c 1 3 _ rfl _ _) $$ HB; iintro HB
  rw [wp_ret]; imodintro; iapply Hk
  isplitl [HC1]; · iexact HC1
  isplitl [HA]; · iexact HA
  isplitl [HZ]; · iexact HZ
  isplitl [HB]; · iexact HB
  isplitl [HY]; · iexact HY
  iexact HO

/-! ## The result -/

/-- The last copy starts; the rows the device summed are stored. -/
theorem part32 (v3 v9 : BitVec 32) (v977 v1009 v1041 v1073 : FVec F S128x768 .f32) (v1074 : FVec F S128x768 .bf16)
    (h0 : k0_pay96 v977 = ownRows X 0 c) (h1 : k0_pay97 v1009 = ownRows X 1 c) (h2 : k0_pay98 v1041 = ownRows X 2 c) (h3 : k0_pay99 v1073 = ownRows X 3 c)
    (hv : k0_pay95 v1074 = cv X 2 3 c) {Q : _ → sProp 𝕄} :
    iprop((env X K ∗ sbAny c 2 3 ∗ tk c 2 3 ∗ dst c 2 3 ∗ oIs X c 0 ∗ ow c (all12.drop 11))
      ∗ ((cs c 2 3 ∗ oIs X c 4 ∗ ow c []) -∗ Q ⟨⟩))
      ⊢ run c (on (k0_part32 (F := F)) c v3 v9 v977 v1009 v1041 v1073 v1074) Q := by
  rw [k0_part32_eq_skeleton]; unfold k0_part32_skel
  simp only [Prog.lift, Prog.bind_op, Prog.bind_ret, Prog.pure_eq_ret]
  iintro ⟨⟨#HE, HS, HT, HD, Ho, HO⟩, Hk⟩
  iapply (wp_lds c 2 3 _ rfl _) $$ HS; iintro %v HS
  iapply (wp_sts c 2 3 _ rfl _ _ (cv X 2 3 c) hv) $$ HS; iintro HS
  iapply (wp_start X K c 2 3 [] _ (d14 c)) $$ [HT HD HS HO]
  · isplitr; · iexact HE
    isplitl [HT]; · iexact HT
    isplitl [HD]; · iexact HD
    isplitl [HS]; · iexact HS
    iexact HO
  iintro ⟨HC1, HO⟩
  iapply (wp_out X c 0 0 rfl _ (k0_off19_eq c 0) _ _ h0) $$ Ho; iintro Ho
  iapply (wp_out X c 1 1 rfl _ (k0_off19_eq c 1) _ _ h1) $$ Ho; iintro Ho
  iapply (wp_out X c 2 2 rfl _ (k0_off19_eq c 2) _ _ h2) $$ Ho; iintro Ho
  iapply (wp_out X c 3 3 rfl _ (k0_off19_eq c 3) _ _ h3) $$ Ho; iintro Ho
  rw [wp_ret]; imodintro; iapply Hk
  isplitl [HC1]; · iexact HC1
  isplitl [Ho]; · iexact Ho
  iexact HO

/-- The third stage's first copy is over, and the second has been sent. -/
theorem part33 (v3 : BitVec 32) {Q : _ → sProp 𝕄} :
    iprop((env X K ∗ ws c 2 0 ∗ cs c 2 0 ∗ wr c 2 0 ∗ ws c 2 1 ∗ cs c 2 1 ∗ ow c [])
      ∗ ((sbAny c 2 0 ∗ zs c 2 0 ∗ rbIs c 2 0 (cv X 2 0 (peer 2 c)) ∗ zr c 2 0 ∗ sbAny c 2 1 ∗ zs c 2 1 ∗ ow c []) -∗ Q ⟨⟩))
      ⊢ run c (on (k0_part33 (F := F)) v3) Q := by
  rw [k0_part33_eq_skeleton]; unfold k0_part33_skel
  simp only [Prog.lift, Prog.bind_op, Prog.bind_ret, Prog.pure_eq_ret]
  iintro ⟨⟨#HE, HWs, HC, HWr, HWs1, HC1, HO⟩, Hk⟩
  iapply (wp_wsnd X K c 2 0 []) $$ [HWs HC HO]
  · isplitr; · iexact HE
    isplitl [HWs]; · iexact HWs
    isplitl [HC]; · iexact HC
    iexact HO
  iintro ⟨HA, HZ, HO⟩
  iapply (wp_wrcv X K c 2 0 [] (by decide)) $$ [HWr HO]
  · isplitr; · iexact HE
    isplitl [HWr]; · iexact HWr
    iexact HO
  iintro ⟨HB, HY, HO⟩
  iapply (wp_wsnd X K c 2 1 []) $$ [HWs1 HC1 HO]
  · isplitr; · iexact HE
    isplitl [HWs1]; · iexact HWs1
    isplitl [HC1]; · iexact HC1
    iexact HO
  iintro ⟨HA1, HZ1, HO⟩
  rw [wp_ret]; imodintro; iapply Hk
  isplitl [HA]; · iexact HA
  isplitl [HZ]; · iexact HZ
  isplitl [HB]; · iexact HB
  isplitl [HY]; · iexact HY
  isplitl [HA1]; · iexact HA1
  isplitl [HZ1]; · iexact HZ1
  iexact HO

/-- The third stage's second and third copies are over. -/
theorem part34 (v3 : BitVec 32) {Q : _ → sProp 𝕄} :
    iprop((env X K ∗ wr c 2 1 ∗ ws c 2 2 ∗ cs c 2 2 ∗ wr c 2 2 ∗ ow c [])
      ∗ ((rbIs c 2 1 (cv X 2 1 (peer 2 c)) ∗ zr c 2 1 ∗ sbAny c 2 2 ∗ zs c 2 2 ∗ rbIs c 2 2 (cv X 2 2 (peer 2 c)) ∗ zr c 2 2 ∗ ow c []) -∗ Q ⟨⟩))
      ⊢ run c (on (k0_part34 (F := F)) v3) Q := by
  rw [k0_part34_eq_skeleton]; unfold k0_part34_skel
  simp only [Prog.lift, Prog.bind_op, Prog.bind_ret, Prog.pure_eq_ret]
  iintro ⟨⟨#HE, HWr1, HWs, HC, HWr, HO⟩, Hk⟩
  iapply (wp_wrcv X K c 2 1 [] (by decide)) $$ [HWr1 HO]
  · isplitr; · iexact HE
    isplitl [HWr1]; · iexact HWr1
    iexact HO
  iintro ⟨HB1, HY1, HO⟩
  iapply (wp_wsnd X K c 2 2 []) $$ [HWs HC HO]
  · isplitr; · iexact HE
    isplitl [HWs]; · iexact HWs
    isplitl [HC]; · iexact HC
    iexact HO
  iintro ⟨HA, HZ, HO⟩
  iapply (wp_wrcv X K c 2 2 [] (by decide)) $$ [HWr HO]
  · isplitr; · iexact HE
    isplitl [HWr]; · iexact HWr
    iexact HO
  iintro ⟨HB, HY, HO⟩
  rw [wp_ret]; imodintro; iapply Hk
  isplitl [HB1]; · iexact HB1
  isplitl [HY1]; · iexact HY1
  isplitl [HA]; · iexact HA
  isplitl [HZ]; · iexact HZ
  isplitl [HB]; · iexact HB
  isplitl [HY]; · iexact HY
  iexact HO

end Cert.KernelIdeal.P

end
-- ==== Proof.Body.lean ====
/-
  The body as a whole: from the launched state of one device, through the exchange, to the result.
-/
module

public import proofs.«01_k».proof.Proof.Parts2

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (ld)
open Idealize.ShloMosaic.ValueIdx

variable {F : FTy → Type} [FloatOps F]

local notation "𝕄" => MT nD τ sig Unit (Elt F) ℕ UU ℕ

variable (X : Dev nD → In F) (K : GSem nD τ sig → ℕ) (c : Dev nD)

/-- One of a kind per chunk of a stage. -/
def four (P : Fin 4 → sProp 𝕄) : sProp 𝕄 := iprop(P 0 ∗ P 1 ∗ P 2 ∗ P 3)
/-- One of a kind per chunk of every stage. -/
def all (P : Fin 3 → Fin 4 → sProp 𝕄) : sProp 𝕄 := iprop(four (P 0) ∗ four (P 1) ∗ four (P 2))

/-- Four chunks, one by one. -/
theorem bigSep_four (P : Fin 4 → sProp 𝕄) : bigSep Finset.univ P = four P := by
  rw [bigSep_univ_eq_bigSepL [0, 1, 2, 3] (by decide) (by decide)]; rfl
/-- Three stages, one by one. -/
theorem bigSep_three (P : Fin 3 → sProp 𝕄) : bigSep Finset.univ P = iprop(P 0 ∗ P 1 ∗ P 2) := by
  rw [bigSep_univ_eq_bigSepL [0, 1, 2] (by decide) (by decide)]; rfl
/-- Twelve chunks, one by one. -/
theorem bigSep_all (P : Fin 3 → Fin 4 → sProp 𝕄) : (bigSep Finset.univ fun e : Fin 3 × Fin 4 => P e.1 e.2) = all P := by
  rw [bigSep_univ_prod, bigSep_three, bigSep_four, bigSep_four, bigSep_four]; rfl

/-- Four chunks, each weakened. -/
theorem four_mono {P Q : Fin 4 → sProp 𝕄} (h : ∀ k, P k ⊢ Q k) : four P ⊢ four Q := by
  rw [← bigSep_four, ← bigSep_four]; exact bigSep_weaken fun k _ => h k

/-- What the device enters the body with. -/
def pre (W : Waits sig Unit) : sProp 𝕄 :=
  iprop(owes (c : Thread nD τ) (O₀ c) W ∗ dutyTok ER (barCell (p1 c)) 0 false ∗ dutyTok ER (barCell (p2 c)) 0 true
    ∗ handed c 0 ∗ handed c 1 ∗ handed c 2 ∗ atPos ER (barCell c) 0 ∅ 0 ∗ cred (tallyAt (barCell c) () 2) ∗ ins c (X c)
    ∗ oIs X c 0 ∗ all (tk c) ∗ all (ws c) ∗ all (wr c) ∗ all (sbAny c))
/-- What holds before the last chunk is waited for. -/
def mid : sProp 𝕄 :=
  iprop(ins c (X c) ∗ oIs X c 4 ∗ semVal (barCell c) 0 ∗ ow c [] ∗ wr c 2 3 ∗ all (sbAny c) ∗ all (zs c)
    ∗ (four (zr c 0) ∗ four (zr c 1) ∗ (zr c 2 0 ∗ zr c 2 1 ∗ zr c 2 2))
    ∗ (four (fun k => rbIs c 0 k (cv X 0 k (peer 0 c))) ∗ four (fun k => rbIs c 1 k (cv X 1 k (peer 1 c)))
      ∗ (rbIs c 2 0 (cv X 2 0 (peer 2 c)) ∗ rbIs c 2 1 (cv X 2 1 (peer 2 c)) ∗ rbIs c 2 2 (cv X 2 2 (peer 2 c)))))

set_option maxHeartbeats 8000000 in
/-- Everything up to the last receive wait. -/
theorem part35 (W : Waits sig Unit) {Q : _ → sProp 𝕄} :
    iprop((env X K ∗ pre X c W) ∗ (∀ v8, mid X c -∗ Q ⟨c, v8⟩)) ⊢ run c (on (k0_part35 (F := F))) Q := by
  rw [k0_part35_eq_skeleton]; unfold k0_part35_skel pre all four
  dsimp only [on, run]
  iintro ⟨⟨#HE, HO, HX1, HX2, HG0, HG1, HG2, HAT, HCR, HI, Hout, ⟨⟨HT00, HT01, HT02, HT03⟩, ⟨HT10, HT11, HT12, HT13⟩, ⟨HT20, HT21, HT22, HT23⟩⟩, ⟨⟨HW00, HW01, HW02, HW03⟩, ⟨HW10, HW11, HW12, HW13⟩, ⟨HW20, HW21, HW22, HW23⟩⟩, ⟨⟨HR00, HR01, HR02, HR03⟩, ⟨HR10, HR11, HR12, HR13⟩, ⟨HR20, HR21, HR22, HR23⟩⟩, ⟨⟨HS00, HS01, HS02, HS03⟩, ⟨HS10, HS11, HS12, HS13⟩, ⟨HS20, HS21, HS22, HS23⟩⟩⟩, Hk⟩
  rw [wp_bind]; iapply (part1 X K c (X c) W)
  isplitl [HO HX1 HX2 HG0 HG1 HG2 HAT HCR HI]
  · isplitr; · iexact HE
    isplitl [HO]; · iexact HO
    isplitl [HX1]; · iexact HX1
    isplitl [HX2]; · iexact HX2
    isplitl [HG0]; · iexact HG0
    isplitl [HG1]; · iexact HG1
    isplitl [HG2]; · iexact HG2
    isplitl [HAT]; · iexact HAT
    isplitl [HCR]; · iexact HCR
    iexact HI
  iintro %v3 %v4 %v8 %v9 ⟨HO, HD0, HD1, HD2, Hbar, HI⟩
  unfold dsts
  icases HD0 with ⟨HD00, HD01, HD02, HD03⟩
  icases HD1 with ⟨HD10, HD11, HD12, HD13⟩
  icases HD2 with ⟨HD20, HD21, HD22, HD23⟩
  rw [wp_bind]; iapply (part2 c (X c) _ _ _ _ _ _)
  isplitl [HI]; · iexact HI
  iintro HI
  rw [wp_bind]; iapply (part3 c (X c) _ _ _ _ _)
  isplitl [HI]; · iexact HI
  iintro HI
  rw [wp_bind]; iapply (part4 c (X c) _ _ _ _ _ _)
  isplitl [HI]; · iexact HI
  iintro HI
  rw [wp_bind]; iapply (part5 c (X c) _ _ _ _ _)
  isplitl [HI]; · iexact HI
  iintro HI
  rw [wp_bind]; iapply (part6 c (X c) _ _ _ _ _ _)
  isplitl [HI]; · iexact HI
  iintro HI
  rw [wp_bind]; iapply (part7 X K c _ _ _ _ _ _ _ _ _ _ _ _ rfl)
  isplitl [HI HS00 HS01 HT00 HD00 HO]
  · isplitr; · iexact HE
    isplitl [HI]; · iexact HI
    isplitl [HS00]; · iexact HS00
    isplitl [HS01]; · iexact HS01
    isplitl [HT00]; · iexact HT00
    isplitl [HD00]; · iexact HD00
    iexact HO
  iintro %v271 ⟨HI, HC00, HS01, HO⟩
  rw [wp_bind]; iapply (part8 X K c _ _ _ _)
  isplitl [HI HS01 HT01 HD01 HO]
  · isplitr; · iexact HE
    isplitl [HI]; · iexact HI
    isplitl [HS01]; · iexact HS01
    isplitl [HT01]; · iexact HT01
    isplitl [HD01]; · iexact HD01
    iexact HO
  iintro ⟨HI, HC01, HO⟩
  rw [wp_bind]; iapply (part9 c (X c) _ _ _ _)
  isplitl [HI]; · iexact HI
  iintro HI
  rw [wp_bind]; iapply (part10 c (X c) _ _ _ _)
  isplitl [HI]; · iexact HI
  iintro HI
  rw [wp_bind]; iapply (part11 c (X c) _ _ _ _)
  isplitl [HI]; · iexact HI
  iintro HI
  rw [wp_bind]; iapply (part12 X K c _ _ _ _ _ _ _ _ _ _ _ _ rfl)
  isplitl [HI HS02 HS03 HT02 HD02 HO]
  · isplitr; · iexact HE
    isplitl [HI]; · iexact HI
    isplitl [HS02]; · iexact HS02
    isplitl [HS03]; · iexact HS03
    isplitl [HT02]; · iexact HT02
    isplitl [HD02]; · iexact HD02
    iexact HO
  iintro ⟨HI, HC02, HS03, HO⟩
  rw [wp_bind]; iapply (part13 X K c _ _ _ _)
  isplitl [HI HS03 HT03 HD03 HO]
  · isplitr; · iexact HE
    isplitl [HI]; · iexact HI
    isplitl [HS03]; · iexact HS03
    isplitl [HT03]; · iexact HT03
    isplitl [HD03]; · iexact HD03
    iexact HO
  iintro ⟨HI, HC03, HO⟩
  rw [wp_bind]; iapply (part14 c (X c) _ _ _ _ _ _)
  isplitl [HI]; · iexact HI
  iintro HI
  rw [wp_bind]; iapply (part15 c (X c) _ _ _ _ _)
  isplitl [HI]; · iexact HI
  iintro HI
  rw [wp_bind]; iapply (part16 c (X c) _ _ _ _ _ _)
  isplitl [HI]; · iexact HI
  iintro HI
  rw [wp_bind]; iapply (part17 c (X c) _ _ _ _ _ _ _ _ _ _ _ _)
  isplitl [HI]; · iexact HI
  iintro HI
  rw [wp_bind]; iapply (part18 X K c _ _)
  isplitl [HW00 HC00 HR00 HS10 HO]
  · isplitr; · iexact HE
    isplitl [HW00]; · iexact HW00
    isplitl [HC00]; · iexact HC00
    isplitl [HR00]; · iexact HR00
    isplitl [HS10]; · iexact HS10
    iexact HO
  iintro ⟨HS00, HZ00, HB00, HY00, HS10, HO⟩
  rw [wp_bind]; iapply (part19 X K c _)
  isplitl [HS10 HT10 HD10 HW01 HC01 HR01 HO]
  · isplitr; · iexact HE
    isplitl [HS10]; · iexact HS10
    isplitl [HT10]; · iexact HT10
    isplitl [HD10]; · iexact HD10
    isplitl [HW01]; · iexact HW01
    isplitl [HC01]; · iexact HC01
    isplitl [HR01]; · iexact HR01
    iexact HO
  iintro ⟨HC10, HS01, HZ01, HB01, HY01, HO⟩
  rw [wp_bind]; iapply (part20 X K c _ _ _ _ _ rfl)
  isplitl [HI HS11 HT11 HD11 HO]
  · isplitr; · iexact HE
    isplitl [HI]; · iexact HI
    isplitl [HS11]; · iexact HS11
    isplitl [HT11]; · iexact HT11
    isplitl [HD11]; · iexact HD11
    iexact HO
  iintro ⟨HI, HC11, HO⟩
  rw [wp_bind]; iapply (part21 c (X c) _ _ _ _ _)
  isplitl [HI]; · iexact HI
  iintro HI
  rw [wp_bind]; iapply (part22 c (X c) _ _ _ _ _)
  isplitl [HI]; · iexact HI
  iintro HI
  rw [wp_bind]; iapply (part23 c (X c) _ _ _ _ _)
  isplitl [HI]; · iexact HI
  iintro HI
  rw [wp_bind]; iapply (part24 c (X c) _ _ _ _ _ _ _ _ _ _ _ _)
  isplitl [HI]; · iexact HI
  iintro HI
  rw [wp_bind]; iapply (part25 X K c _ _)
  isplitl [HW02 HC02 HR02 HS12 HO]
  · isplitr; · iexact HE
    isplitl [HW02]; · iexact HW02
    isplitl [HC02]; · iexact HC02
    isplitl [HR02]; · iexact HR02
    isplitl [HS12]; · iexact HS12
    iexact HO
  iintro ⟨HS02, HZ02, HB02, HY02, HS12, HO⟩
  rw [wp_bind]; iapply (part26 X K c _)
  isplitl [HS12 HT12 HD12 HW03 HC03 HR03 HS13 HO]
  · isplitr; · iexact HE
    isplitl [HS12]; · iexact HS12
    isplitl [HT12]; · iexact HT12
    isplitl [HD12]; · iexact HD12
    isplitl [HW03]; · iexact HW03
    isplitl [HC03]; · iexact HC03
    isplitl [HR03]; · iexact HR03
    isplitl [HS13]; · iexact HS13
    iexact HO
  iintro ⟨HC12, HS03, HZ03, HB03, HY03, HS13, HO⟩
  rw [wp_bind]; iapply (part27 X K c _)
  isplitl [HS13 HT13 HD13 HW10 HC10 HR10 HO]
  · isplitr; · iexact HE
    isplitl [HS13]; · iexact HS13
    isplitl [HT13]; · iexact HT13
    isplitl [HD13]; · iexact HD13
    isplitl [HW10]; · iexact HW10
    isplitl [HC10]; · iexact HC10
    isplitl [HR10]; · iexact HR10
    iexact HO
  iintro ⟨HC13, HS10, HZ10, HB10, HY10, HO⟩
  rw [wp_bind]; iapply (part28 X K c _ _ rfl)
  isplitl [HB10 HS20 HT20 HD20 HW11 HC11 HO]
  · isplitr; · iexact HE
    isplitl [HB10]; · iexact HB10
    isplitl [HS20]; · iexact HS20
    isplitl [HT20]; · iexact HT20
    isplitl [HD20]; · iexact HD20
    isplitl [HW11]; · iexact HW11
    isplitl [HC11]; · iexact HC11
    iexact HO
  iintro ⟨HB10, HC20, HS11, HZ11, HO⟩
  rw [wp_bind]; iapply (part29 X K c _ _ _ rfl)
  isplitl [HR11 HS21 HT21 HD21 HO]
  · isplitr; · iexact HE
    isplitl [HR11]; · iexact HR11
    isplitl [HS21]; · iexact HS21
    isplitl [HT21]; · iexact HT21
    isplitl [HD21]; · iexact HD21
    iexact HO
  iintro ⟨HB11, HY11, HC21, HO⟩
  rw [wp_bind]; iapply (part30 X K c _ _ _ rfl)
  isplitl [HW12 HC12 HR12 HS22 HO]
  · isplitr; · iexact HE
    isplitl [HW12]; · iexact HW12
    isplitl [HC12]; · iexact HC12
    isplitl [HR12]; · iexact HR12
    isplitl [HS22]; · iexact HS22
    iexact HO
  iintro ⟨HS12, HZ12, HB12, HY12, HS22, HO⟩
  rw [wp_bind]; iapply (part31 X K c _ _ rfl)
  isplitl [HS22 HT22 HD22 HW13 HC13 HR13 HO]
  · isplitr; · iexact HE
    isplitl [HS22]; · iexact HS22
    isplitl [HT22]; · iexact HT22
    isplitl [HD22]; · iexact HD22
    isplitl [HW13]; · iexact HW13
    isplitl [HC13]; · iexact HC13
    isplitl [HR13]; · iexact HR13
    iexact HO
  iintro ⟨HC22, HS13, HZ13, HB13, HY13, HO⟩
  rw [wp_bind]; iapply (part32 X K c _ _ _ _ _ _ _ rfl rfl rfl rfl rfl)
  isplitl [HS23 HT23 HD23 Hout HO]
  · isplitr; · iexact HE
    isplitl [HS23]; · iexact HS23
    isplitl [HT23]; · iexact HT23
    isplitl [HD23]; · iexact HD23
    isplitl [Hout]; · iexact Hout
    iexact HO
  iintro ⟨HC23, Hout, HO⟩
  rw [wp_bind]; iapply (part33 X K c _)
  isplitl [HW20 HC20 HR20 HW21 HC21 HO]
  · isplitr; · iexact HE
    isplitl [HW20]; · iexact HW20
    isplitl [HC20]; · iexact HC20
    isplitl [HR20]; · iexact HR20
    isplitl [HW21]; · iexact HW21
    isplitl [HC21]; · iexact HC21
    iexact HO
  iintro ⟨HS20, HZ20, HB20, HY20, HS21, HZ21, HO⟩
  rw [wp_bind]; iapply (part34 X K c _)
  isplitl [HR21 HW22 HC22 HR22 HO]
  · isplitr; · iexact HE
    isplitl [HR21]; · iexact HR21
    isplitl [HW22]; · iexact HW22
    isplitl [HC22]; · iexact HC22
    isplitl [HR22]; · iexact HR22
    iexact HO
  iintro ⟨HB21, HY21, HS22, HZ22, HB22, HY22, HO⟩
  simp only [Prog.lift, Prog.bind_op, Prog.bind_ret, Prog.pure_eq_ret]
  iapply (wp_wsnd X K c 2 3 []) $$ [HW23 HC23 HO]
  · isplitr; · iexact HE
    isplitl [HW23]; · iexact HW23
    isplitl [HC23]; · iexact HC23
    iexact HO
  iintro ⟨HS23, HZ23, HO⟩
  rw [wp_ret]; imodintro; iapply Hk
  unfold mid all four
  isplitl [HI]; · iexact HI
  isplitl [Hout]; · iexact Hout
  isplitl [Hbar]; · iexact Hbar
  isplitl [HO]; · iexact HO
  isplitl [HR23]; · iexact HR23
  isplitl [HS00 HS01 HS02 HS03 HS10 HS11 HS12 HS13 HS20 HS21 HS22 HS23]
  · isplitl [HS00 HS01 HS02 HS03]
    · isplitl [HS00]; · iexact HS00
      isplitl [HS01]; · iexact HS01
      isplitl [HS02]; · iexact HS02
      iexact HS03
    isplitl [HS10 HS11 HS12 HS13]
    · isplitl [HS10]; · iexact HS10
      isplitl [HS11]; · iexact HS11
      isplitl [HS12]; · iexact HS12
      iexact HS13
    isplitl [HS20]; · iexact HS20
    isplitl [HS21]; · iexact HS21
    isplitl [HS22]; · iexact HS22
    iexact HS23
  isplitl [HZ00 HZ01 HZ02 HZ03 HZ10 HZ11 HZ12 HZ13 HZ20 HZ21 HZ22 HZ23]
  · isplitl [HZ00 HZ01 HZ02 HZ03]
    · isplitl [HZ00]; · iexact HZ00
      isplitl [HZ01]; · iexact HZ01
      isplitl [HZ02]; · iexact HZ02
      iexact HZ03
    isplitl [HZ10 HZ11 HZ12 HZ13]
    · isplitl [HZ10]; · iexact HZ10
      isplitl [HZ11]; · iexact HZ11
      isplitl [HZ12]; · iexact HZ12
      iexact HZ13
    isplitl [HZ20]; · iexact HZ20
    isplitl [HZ21]; · iexact HZ21
    isplitl [HZ22]; · iexact HZ22
    iexact HZ23
  isplitl [HY00 HY01 HY02 HY03 HY10 HY11 HY12 HY13 HY20 HY21 HY22]
  · isplitl [HY00 HY01 HY02 HY03]
    · isplitl [HY00]; · iexact HY00
      isplitl [HY01]; · iexact HY01
      isplitl [HY02]; · iexact HY02
      iexact HY03
    isplitl [HY10 HY11 HY12 HY13]
    · isplitl [HY10]; · iexact HY10
      isplitl [HY11]; · iexact HY11
      isplitl [HY12]; · iexact HY12
      iexact HY13
    isplitl [HY20]; · iexact HY20
    isplitl [HY21]; · iexact HY21
    iexact HY22
  isplitl [HB00 HB01 HB02 HB03]
  · isplitl [HB00]; · iexact HB00
    isplitl [HB01]; · iexact HB01
    isplitl [HB02]; · iexact HB02
    iexact HB03
  isplitl [HB10 HB11 HB12 HB13]
  · isplitl [HB10]; · iexact HB10
    isplitl [HB11]; · iexact HB11
    isplitl [HB12]; · iexact HB12
    iexact HB13
  isplitl [HB20]; · iexact HB20
  isplitl [HB21]; · iexact HB21
  iexact HB22

/-- What it leaves. -/
def post : sProp 𝕄 :=
  iprop(ins c (X c) ∗ ((c : Thread nD τ).loc cc0_stg5_0 ↦{fullShare} (outAt X c : Buf (Elt F) ((c : Thread nD τ).loc cc0_stg5_0)))
    ∗ semVal (barCell c) 0 ∗ ow c [] ∗ all (sbAny c) ∗ all (zs c) ∗ all (zr c) ∗ all (rbAny c))

/-- The body. -/
theorem body (W : Waits sig Unit) {Q : _ → sProp 𝕄} :
    iprop((env X K ∗ pre X c W) ∗ (post X c -∗ Q ⟨⟩)) ⊢ run c (on (cc0_body (F := F))) Q := by
  rw [cc0_body_eq_skeleton]; unfold cc0_body_skel
  dsimp only [on, run]
  iintro ⟨⟨#HE, Hp⟩, Hk⟩
  rw [wp_bind]; iapply (part35 X K c W)
  isplitl [Hp]
  · isplitr; · iexact HE
    iexact Hp
  iintro %v8 Hm
  unfold mid
  icases Hm with ⟨HI, Hout, Hbar, HO, HR, HS, HZ, ⟨HY0, HY1, HY20, HY21, HY22⟩, HB0, HB1, HB20, HB21, HB22⟩
  simp only [Prog.lift, Prog.bind_op, Prog.bind_ret, Prog.pure_eq_ret]
  iapply (wp_wrcv X K c 2 3 [] (by decide)) $$ [HR HO]
  · isplitr; · iexact HE
    isplitl [HR]; · iexact HR
    iexact HO
  iintro ⟨HB23, HY23, HO⟩
  iapply (wp_landed X c) $$ [HB20 HB21 HB22 HB23]
  · rw [bigSep_four]; unfold four
    isplitl [HB20]; · iexact HB20
    isplitl [HB21]; · iexact HB21
    isplitl [HB22]; · iexact HB22
    iexact HB23
  iintro HB2
  iapply (wp_last X c _ (k0_off20_eq c)) $$ Hout; iintro Hout
  rw [wp_ret]; imodintro; iapply Hk
  unfold post
  isplitl [HI]; · iexact HI
  isplitl [Hout]; · iexact Hout
  isplitl [Hbar]; · iexact Hbar
  isplitl [HO]; · iexact HO
  isplitl [HS]; · iexact HS
  isplitl [HZ]; · iexact HZ
  unfold all
  isplitl [HY0 HY1 HY20 HY21 HY22 HY23]
  · isplitl [HY0]; · iexact HY0
    isplitl [HY1]; · iexact HY1
    unfold four
    isplitl [HY20]; · iexact HY20
    isplitl [HY21]; · iexact HY21
    isplitl [HY22]; · iexact HY22
    iexact HY23
  isplitl [HB0]; · iapply (four_mono (fun k => rbIs_any c 0 k _)) $$ HB0
  isplitl [HB1]; · iapply (four_mono (fun k => rbIs_any c 1 k _)) $$ HB1
  iapply (Entails.of_eq (bigSep_four _)) $$ HB2

end Cert.KernelIdeal.P

end
-- ==== Proof.Region.lean ====
/-
  The kernel call as a region of the host program: what its windows hold before and after, the state that enters its one grid
  point and the one that leaves it, and the record the launch composes the whole program from.
-/
module

public import proofs.«01_k».proof.Proof.Body
public import proofs.«01_k».proof.Proof.Gen.KernelIdeal.Regions

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (V : Dev nD → Valuation τ sig (Elt F))

/-- What the five input windows of a device hold when the kernel is called. -/
def Xd (d : Dev nD) : In F := ⟨V d main_v17, V d main_arg1, V d main_v15, V d main_v16, V d main_arg4⟩

/-- The buffers after the call: the result array written. -/
def W2 (c : Dev nD) : Valuation τ sig (Elt F) := Function.update (V c) main_v18 (outAt (Xd V) c)

/-- After the call its output array holds the result. -/
theorem W2_out (c : Dev nD) : W2 V c main_v18 = outAt (Xd V) c := Function.update_self _ _ _
/-- The call changes no other array. -/
theorem W2_of (c : Dev nD) (b : DevRef τ sig) (h : b ≠ Proc.devRef .tc main_v18) : W2 V c b = V c b := Function.update_of_ne h _ _

/-! ## The states around the grid point -/

/-- Two facts of every chunk are every chunk's two facts. -/
theorem all_sep (P Q : Fin 3 → Fin 4 → sProp 𝕄) : all (fun s k => iprop(P s k ∗ Q s k)) = iprop(all P ∗ all Q) := by
  rw [← bigSep_all, ← bigSep_all, ← bigSep_all, bigSep_sep']

/-- Every record but the levels. -/
def recs (K : GSem nD τ sig → ℕ) : sProp 𝕄 :=
  iprop((bigSep (barCells ∪ scCells) fun g => cellInv ER (rd (Xd V)) (K g) g) ∗ (bigSep barCells fun g => reached ER g 0))
instance recs_persistent (K : GSem nD τ sig → ℕ) : BI.Persistent (recs V K) := by unfold recs; infer_instance

/-- What a device keeps from the launch to the call: its barrier's position and credit, the tokens of the duties it pays, the
    rights to open its send and receive cells, and the credit of the copies that will land. -/
def keep (c : Dev nD) : sProp 𝕄 :=
  iprop(dutyTok ER (barCell (p1 c)) 0 false ∗ dutyTok ER (barCell (p2 c)) 0 true ∗ atPos ER (barCell c) 0 ∅ 0
    ∗ cred (tallyAt (barCell c) () 2) ∗ (bigSep Finset.univ fun e : CK => openTok ER ((c : Thread nD τ), osem e))
    ∗ all (fun s k => dutyTok ER (sndCell c s k) 0 false) ∗ all (fun s k => dutyTok ER (rcvCell (peer s c) s k) 0 false)
    ∗ all (fun s k => cred (tallyAt (rcvCell c s k) () N)))

/-- The same once the cells are open. -/
def opened (c : Dev nD) : sProp 𝕄 :=
  iprop(dutyTok ER (barCell (p1 c)) 0 false ∗ dutyTok ER (barCell (p2 c)) 0 true ∗ atPos ER (barCell c) 0 ∅ 0
    ∗ cred (tallyAt (barCell c) () 2) ∗ all (fun s k => reached ER (rcvCell c s k) 0) ∗ all (tk c) ∗ all (ws c) ∗ all (wr c))

def Tk (c : Dev nD) : sProp 𝕄 := iprop((∃ K, recs V K) ∗ keep c)
def Xk (c : Dev nD) : sProp 𝕄 := iprop((∃ K, env (Xd V) K) ∗ opened c)
def Yk (c : Dev nD) : sProp 𝕄 := semVal (barCell c) 0

def anyBufs (c : Dev nD) : sProp 𝕄 := iprop(all (sbAny c) ∗ all (rbAny c))
def Φ₀ (c : Dev nD) : sProp 𝕄 := iprop(Xk V c ∗ anyBufs c ∗ ∃ r, prngReg c r)
def Φ₁ (c : Dev nD) : sProp 𝕄 := iprop(Yk c ∗ (all (zs c) ∗ all (zr c)) ∗ anyBufs c ∗ ∃ r, prngReg c r)

/-- The region's data: its windows' arrays at the call, the staged contents after the point, the states around it. -/
def dat0 (c : Dev nD) : Dat τ (Elt F) Unit ℕ UU ℕ cfg0 c where
  A w := V c (Proc.devRef .tc (Pipeline.arrRef spec0 w))
  after w _ := match w with
    | ⟨0, _⟩ => (Xd V c).x
    | ⟨1, _⟩ => (Xd V c).wq
    | ⟨2, _⟩ => (Xd V c).k
    | ⟨3, _⟩ => (Xd V c).v
    | ⟨4, _⟩ => (Xd V c).wo
    | ⟨5, _⟩ => outAt (Xd V) c
  Φ t := match t with
    | ⟨0, _⟩ => Φ₀ V c
    | ⟨_ + 1, _⟩ => Φ₁ c
  q _ := fullShare
  owed t := match t with
    | ⟨0, _⟩ => O₀ c
    | ⟨_ + 1, _⟩ => 0

def pdats : (p : Fin 1) → (c : Dev nD) → Dat τ (Elt F) Unit ℕ UU ℕ (cfgs p) c := fun p c => match p with | 0 => dat0 V c

/-! ## The body at its point -/

/-- A staging buffer at given contents. -/
abbrev stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b ↦{fullShare} f))

/-- Each window's one block is its whole array. -/
theorem before_0 (c : Dev nD) (d : (cfg0.win 0).block.Idx → Elt F (cfg0.win 0).elt) : (dat0 V c).before 0 t0_0 d = (Xd V c).x := by
  unfold Dat.before; rw [if_pos (fetch0_0 t0_0)]
  have e : (dat0 V c).fetched 0 t0_0 d = (win0_0.blk t0_0).view.read (Elt F) (V c main_v17) := rfl
  rw [e]
  exact Memref.read_access_unit_zero (Elt F) main_v17 (off := fun a => win0_0.index t0_0 a * main_v17.ty.shape.size a)
    (funext fun a => by fin_cases a <;> decide) (fun a => by fin_cases a <;> decide) (V c main_v17)
/-- At the call, window 1 holds the device's query weights. -/
theorem before_1 (c : Dev nD) (d : (cfg0.win 1).block.Idx → Elt F (cfg0.win 1).elt) : (dat0 V c).before 1 t0_0 d = (Xd V c).wq := by
  unfold Dat.before; rw [if_pos (fetch0_1 t0_0)]
  have e : (dat0 V c).fetched 1 t0_0 d = (win0_1.blk t0_0).view.read (Elt F) (V c main_arg1) := rfl
  rw [e]
  exact Memref.read_access_unit_zero (Elt F) main_arg1 (off := fun a => win0_1.index t0_0 a * main_arg1.ty.shape.size a)
    (funext fun a => by fin_cases a <;> decide) (fun a => by fin_cases a <;> decide) (V c main_arg1)
/-- At the call, window 2 holds the device's keys. -/
theorem before_2 (c : Dev nD) (d : (cfg0.win 2).block.Idx → Elt F (cfg0.win 2).elt) : (dat0 V c).before 2 t0_0 d = (Xd V c).k := by
  unfold Dat.before; rw [if_pos (fetch0_2 t0_0)]
  have e : (dat0 V c).fetched 2 t0_0 d = (win0_2.blk t0_0).view.read (Elt F) (V c main_v15) := rfl
  rw [e]
  exact Memref.read_access_unit_zero (Elt F) main_v15 (off := fun a => win0_2.index t0_0 a * main_v15.ty.shape.size a)
    (funext fun a => by fin_cases a <;> decide) (fun a => by fin_cases a <;> decide) (V c main_v15)
/-- At the call, window 3 holds the device's values. -/
theorem before_3 (c : Dev nD) (d : (cfg0.win 3).block.Idx → Elt F (cfg0.win 3).elt) : (dat0 V c).before 3 t0_0 d = (Xd V c).v := by
  unfold Dat.before; rw [if_pos (fetch0_3 t0_0)]
  have e : (dat0 V c).fetched 3 t0_0 d = (win0_3.blk t0_0).view.read (Elt F) (V c main_v16) := rfl
  rw [e]
  exact Memref.read_access_unit_zero (Elt F) main_v16 (off := fun a => win0_3.index t0_0 a * main_v16.ty.shape.size a)
    (funext fun a => by fin_cases a <;> decide) (fun a => by fin_cases a <;> decide) (V c main_v16)
/-- At the call, window 4 holds the device's output weights. -/
theorem before_4 (c : Dev nD) (d : (cfg0.win 4).block.Idx → Elt F (cfg0.win 4).elt) : (dat0 V c).before 4 t0_0 d = (Xd V c).wo := by
  unfold Dat.before; rw [if_pos (fetch0_4 t0_0)]
  have e : (dat0 V c).fetched 4 t0_0 d = (win0_4.blk t0_0).view.read (Elt F) (V c main_arg4) := rfl
  rw [e]
  exact Memref.read_access_unit_zero (Elt F) main_arg4 (off := fun a => win0_4.index t0_0 a * main_arg4.ty.shape.size a)
    (funext fun a => by fin_cases a <;> decide) (fun a => by fin_cases a <;> decide) (V c main_arg4)

def bodyPre (c : Dev nD) : sProp 𝕄 :=
  iprop(Φ₀ V c ∗ (dat0 V c).owesAt () t0_0.castSucc
    ∗ (∃ d, stg c cc0_stg0_0 ((dat0 V c).before (0 : Fin 6) t0_0 d))
    ∗ (∃ d, stg c cc0_stg1_0 ((dat0 V c).before (1 : Fin 6) t0_0 d))
    ∗ (∃ d, stg c cc0_stg2_0 ((dat0 V c).before (2 : Fin 6) t0_0 d))
    ∗ (∃ d, stg c cc0_stg3_0 ((dat0 V c).before (3 : Fin 6) t0_0 d))
    ∗ (∃ d, stg c cc0_stg4_0 ((dat0 V c).before (4 : Fin 6) t0_0 d))
    ∗ (∃ d, stg c cc0_stg5_0 ((dat0 V c).before (5 : Fin 6) t0_0 d)))
def bodyPost (c : Dev nD) : sProp 𝕄 :=
  iprop(Φ₁ c ∗ (dat0 V c).owesAt () t0_0.succ
    ∗ stg c cc0_stg0_0 (Xd V c).x ∗ stg c cc0_stg1_0 (Xd V c).wq ∗ stg c cc0_stg2_0 (Xd V c).k
    ∗ stg c cc0_stg3_0 (Xd V c).v ∗ stg c cc0_stg4_0 (Xd V c).wo ∗ stg c cc0_stg5_0 (outAt (Xd V) c))

/-- The receive buffer's open chunks are what is handed to the partners. -/
theorem handed_of (c : Dev nD) : iprop(all (fun s k => reached ER (rcvCell c s k) 0) ∗ all (rbAny c)) ⊢ iprop(handed c 0 ∗ handed c 1 ∗ handed c 2 : sProp 𝕄) := by
  have e : (all (fun s k => iprop(rbAny c s k ∗ reached ER (rcvCell c s k) 0)) : sProp 𝕄) = iprop(handed c 0 ∗ handed c 1 ∗ handed c 2) := rfl
  rw [← e, all_sep]
  iintro ⟨H1, H2⟩
  isplitl [H2]; · iexact H2
  iexact H1

/-- The body, from what the call starts with to what it ends with. -/
theorem body_point (c : Dev nD) : bodyPre V c ⊢ run c (on (cc0_body (F := F))) (fun _ => bodyPost V c) := by
  unfold bodyPre Φ₀ Xk anyBufs opened
  iintro ⟨⟨⟨⟨%K, #HE⟩, H1, H2, HA, HC, HR, HT, HS, HW⟩, ⟨HB, HV⟩, Hreg⟩, Ho, ⟨%d0, %g0, %h0, G0⟩, ⟨%d1, %g1, %h1, G1⟩, ⟨%d2, %g2, %h2, G2⟩, ⟨%d3, %g3, %h3, G3⟩, ⟨%d4, %g4, %h4, G4⟩, ⟨%d5, %g5, %h5, G5⟩⟩
  have e0 : g0 = (Xd V c).x := h0.trans (before_0 V c d0)
  have e1 : g1 = (Xd V c).wq := h1.trans (before_1 V c d1)
  have e2 : g2 = (Xd V c).k := h2.trans (before_2 V c d2)
  have e3 : g3 = (Xd V c).v := h3.trans (before_3 V c d3)
  have e4 : g4 = (Xd V c).wo := h4.trans (before_4 V c d4)
  clear h0 h1 h2 h3 h4 h5
  subst e0 e1 e2 e3 e4
  unfold Dat.owesAt Pipeline.owesWithin
  icases Ho with ⟨%W, %hW, HO⟩
  rw [show (dat0 V c).owed t0_0.castSucc = O₀ c from rfl]
  ihave HH := (handed_of (F := F) c) $$ [HR HV]
  · isplitl [HR]; · iexact HR
    iexact HV
  icases HH with ⟨HH0, HH1, HH2⟩
  iapply (body (Xd V) K c W)
  isplitr [Hreg]
  · isplitr; · iexact HE
    unfold pre
    isplitl [HO]; · iexact HO
    isplitl [H1]; · iexact H1
    isplitl [H2]; · iexact H2
    isplitl [HH0]; · iexact HH0
    isplitl [HH1]; · iexact HH1
    isplitl [HH2]; · iexact HH2
    isplitl [HA]; · iexact HA
    isplitl [HC]; · iexact HC
    isplitl [G0 G1 G2 G3 G4]
    · unfold ins
      isplitl [G0]; · iexact G0
      isplitl [G1]; · iexact G1
      isplitl [G2]; · iexact G2
      isplitl [G3]; · iexact G3
      iexact G4
    isplitl [G5]
    · unfold oIs
      iexists g5
      isplitr; · ipureintro; exact fun k hk => absurd hk (Nat.not_lt_zero _)
      iexact G5
    isplitl [HT]; · iexact HT
    isplitl [HS]; · iexact HS
    isplitl [HW]; · iexact HW
    iexact HB
  unfold post ins
  iintro ⟨⟨G0, G1, G2, G3, G4⟩, G5, Hb, Ho, HB, HZS, HZR, HV⟩
  unfold bodyPost Φ₁ Yk anyBufs Dat.owesAt Pipeline.owesWithin ow
  icases Ho with ⟨%W', HO⟩
  isplitl [Hb HB HZS HZR HV Hreg]
  · isplitl [Hb]; · iexact Hb
    isplitl [HZS HZR]
    · isplitl [HZS]; · iexact HZS
      iexact HZR
    isplitl [HB HV]
    · isplitl [HB]; · iexact HB
      iexact HV
    iexact Hreg
  isplitl [HO]
  · iexists W'
    isplitr; · ipureintro; exact fun _ _ => Or.inl trivial
    iexact HO
  isplitl [G0]; · iexists _; isplitr; · (ipureintro; rfl)
                  iexact G0
  isplitl [G1]; · iexists _; isplitr; · (ipureintro; rfl)
                  iexact G1
  isplitl [G2]; · iexists _; isplitr; · (ipureintro; rfl)
                  iexact G2
  isplitl [G3]; · iexists _; isplitr; · (ipureintro; rfl)
                  iexact G3
  isplitl [G4]; · iexists _; isplitr; · (ipureintro; rfl)
                  iexact G4
  iexists _; isplitr; · (ipureintro; rfl)
  iexact G5

set_option maxRecDepth 100000 in
/-- The body at the region's one point, as the pipeline calls it. -/
theorem body_obligation (c : Dev nD) : BodyObligation (dat0 V c) (defs₀ (F := F)) 𝒱₀ () Set.univ := fun t => by
  rw [fin_N0 t]
  rw [bigSep_W0, bigSep_W0]
  simp only [owns_whole_eq]
  exact body_point V c

/-! ## Entering and leaving -/

/-- The counters of a device's own cells, by kind. -/
theorem bigSep_CK (P : CK → sProp 𝕄) : bigSep Finset.univ P = iprop(all (fun s k => P (false, s, k)) ∗ all (fun s k => P (true, s, k))) := by
  rw [bigSep_univ_prod, bigSep_univ_eq_bigSepL [false, true] (by decide) (by decide)]
  show iprop(bigSep Finset.univ (fun e : Fin 3 × Fin 4 => P (false, e)) ∗ bigSep Finset.univ (fun e : Fin 3 × Fin 4 => P (true, e))) = _
  rw [← bigSep_all, ← bigSep_all]

/-- The copies' counters, by kind. -/
theorem ownSems_eq (c : Dev nD) : (Pipeline.ownSems0 osem c : sProp 𝕄) = iprop(all (zs c) ∗ all (zr c)) := by
  unfold Pipeline.ownSems0; rw [bigSep_CK]; rfl

/-- Opening the cells, given their counters at zero. -/
theorem hopen (c : Dev nD) : iprop(Tk V c ∗ Pipeline.ownSems0 osem c ∗ levAts L lv) ⊢ (|={Set.univ}=> Xk V c : sProp 𝕄) := by
  unfold Tk keep Pipeline.ownSems0
  iintro ⟨⟨⟨%K, #HR⟩, H1, H2, HA, HC, HO, HT, HT', HCr⟩, Hz, #Hlev⟩
  ihave HOZ := (Entails.of_eq (bigSep_sep' Finset.univ (fun e : CK => (openTok ER ((c : Thread nD τ), osem e) : sProp 𝕄)) (fun e : CK => semVal ((c : Thread nD τ), osem e) 0)).symm) $$ [HO Hz]
  · isplitl [HO]; · iexact HO
    iexact Hz
  have ho : iprop(recs V K ∗ bigSep Finset.univ (fun e : CK => iprop(openTok ER ((c : Thread nD τ), osem e) ∗ semVal ((c : Thread nD τ), osem e) 0)))
      ⊢ bigSep Finset.univ (fun e : CK => iprop(|={Set.univ}=> (atPos ER ((c : Thread nD τ), osem e) 0 ∅ 0 ∗ reached ER ((c : Thread nD τ), osem e) 0) : sProp 𝕄)) := by
    refine bigSep_with_persistent (R := recs V K) (Φ := fun e : CK => iprop(openTok ER ((c : Thread nD τ), osem e) ∗ semVal ((c : Thread nD τ), osem e) 0)) fun e _ => ?_
    have hi : recs V K ⊢ cellInv ER (rd (Xd V)) (K ((c : Thread nD τ), osem e)) ((c : Thread nD τ), osem e) := by
      have h : (bigSep (barCells ∪ scCells) fun g => (cellInv ER (rd (Xd V)) (K g) g : sProp 𝕄)) ⊢ cellInv ER (rd (Xd V)) (K ((c : Thread nD τ), osem e)) ((c : Thread nD τ), osem e) :=
        bigSep_elim (Finset.mem_union_right _ (Finset.mem_map_of_mem scEmb (Finset.mem_univ (c, e))))
      unfold recs; iintro ⟨H, -⟩; iapply h; iexact H
    iintro ⟨#HR, HO, Hz⟩
    iapply (Rounds.cell_open ER (rd (Xd V)) (g := ((c : Thread nD τ), osem e)) (Set.mem_univ (K ((c : Thread nD τ), osem e))))
    isplitr; · iapply hi; iexact HR
    isplitl [HO]; · iexact HO
    iexact Hz
  ihave HF := ho $$ [HOZ]
  · isplitr; · iexact HR
    iexact HOZ
  imod (bigSep_fupd Finset.univ (fun e : CK => iprop((atPos ER ((c : Thread nD τ), osem e) 0 ∅ 0 ∗ reached ER ((c : Thread nD τ), osem e) 0) : sProp 𝕄))) $$ HF with HF
  imodintro
  have hsp : bigSep Finset.univ (fun e : CK => iprop(atPos ER ((c : Thread nD τ), osem e) 0 ∅ 0 ∗ reached ER ((c : Thread nD τ), osem e) 0))
      ⊢ (iprop((all (fun s k => atPos ER (sndCell c s k) 0 ∅ 0) ∗ all (fun s k => reached ER (sndCell c s k) 0))
        ∗ all (fun s k => atPos ER (rcvCell c s k) 0 ∅ 0) ∗ all (fun s k => reached ER (rcvCell c s k) 0)) : sProp 𝕄) := by
    rw [bigSep_CK, all_sep, all_sep]; exact .rfl
  ihave HF := hsp $$ HF
  icases HF with ⟨⟨HS, HSr⟩, HW, HWr⟩
  unfold Xk opened
  isplitr
  · iexists K; unfold env
    unfold recs
    icases HR with ⟨#HI, #HB⟩
    isplitr; · iexact HI
    isplitr; · iexact HB
    iexact Hlev
  isplitl [H1]; · iexact H1
  isplitl [H2]; · iexact H2
  isplitl [HA]; · iexact HA
  isplitl [HC]; · iexact HC
  isplitl [HWr]; · iexact HWr
  isplitl [HT HT' HSr]
  · have e : (all (tk c) : sProp 𝕄) = iprop(all (fun s k => dutyTok ER (sndCell c s k) 0 false)
        ∗ all (fun s k => reached ER (sndCell c s k) 0) ∗ all (fun s k => dutyTok ER (rcvCell (peer s c) s k) 0 false)) := by
      rw [← all_sep, ← all_sep]; rfl
    rw [e]
    isplitl [HT]; · iexact HT
    isplitl [HSr]; · iexact HSr
    iexact HT'
  isplitl [HS]; · iexact HS
  have e : (all (wr c) : sProp 𝕄) = iprop(all (fun s k => atPos ER (rcvCell c s k) 0 ∅ 0) ∗ all (fun s k => cred (tallyAt (rcvCell c s k) () N))) := by
    rw [← all_sep]; rfl
  rw [e]
  isplitl [HW]; · iexact HW
  iexact HCr

/-- The exchange's two buffers are their chunks. -/
theorem anyBufs_eq (c : Dev nD) : (Pipeline.scopedRest (Ix := Unit) (Name := ℕ) (U := UU) (Lvl := ℕ) (Val := Elt F) spec0 c : sProp 𝕄) ⊣⊢ anyBufs c := by
  rw [scopedRest0_eq]
  unfold anyBufs
  rw [← bigSep_all, ← bigSep_all]
  constructor
  · iintro ⟨H1, H2⟩
    isplitl [H1]; · iapply (sb_chunks c).1; iexact H1
    iapply (rb_chunks c).1; iexact H2
  · iintro ⟨H1, H2⟩
    isplitl [H1]; · iapply (sb_chunks c).2; iexact H1
    iapply (rb_chunks c).2; iexact H2

/-- Into the call. -/
theorem hin (c : Dev nD) : iprop(Pipeline.scopedRest spec0 c ∗ (∃ r, prngReg c r) ∗ StableHlo.held (c.tc : Thread nD τ) ∅ (V c) ∗ Xk V c) ⊢ Φ₀ V c := by
  unfold Φ₀
  iintro ⟨Hs, Hp, -, HX⟩
  isplitl [HX]; · iexact HX
  isplitl [Hs]; · iapply (anyBufs_eq c).1; iexact Hs
  iexact Hp

/-- Out of the call: every counter is back at zero. -/
theorem hout (c : Dev nD) : (Φ₁ c : sProp 𝕄)
    ⊢ iprop(Pipeline.scopedRest spec0 c ∗ (∃ r, prngReg c r) ∗ StableHlo.held (c.tc : Thread nD τ) ∅ (W2 V c) ∗ Pipeline.ownSems0 osem c ∗ Yk c) := by
  unfold Φ₁
  rw [ownSems_eq]
  iintro ⟨HY, Hz, Hs, Hp⟩
  isplitl [Hs]; · iapply (anyBufs_eq c).2; iexact Hs
  isplitl [Hp]; · iexact Hp
  isplitr
  · unfold StableHlo.held; rw [BI.bigSep_empty]; iempintro
  isplitl [Hz]; · iexact Hz
  iexact HY

/-- The facts of the call's windows. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- All that is owed at the start has a level above zero. -/
theorem O₀_pos {c : Dev nD} {g : GSem nD τ sig} {u : Unit} (h : 0 < O₀ c g u) : u ∈ L g ∧ 0 < lv g u := by
  have hr : (∃ e : Fin 3 × Fin 4, g = rcvCell (peer e.1 c) e.1 e.2) ∨ (∃ d, g = barCell d) := by
    have h' : 0 < rem c all12 g u + tallyAt (barCell (p2 c)) () 1 g u + tallyAt (barCell (p1 c)) () 1 g u := h
    by_cases h1 : g = barCell (p1 c) ∧ u = ()
    · exact .inr ⟨_, h1.1⟩
    by_cases h2 : g = barCell (p2 c) ∧ u = ()
    · exact .inr ⟨_, h2.1⟩
    rw [tallyAt_apply, tallyAt_apply, if_neg h1, if_neg h2] at h'
    obtain ⟨e, -, he⟩ := rem_pos c all12 g u h'
    exact .inl ⟨e, he⟩
  rcases hr with ⟨e, rfl⟩ | ⟨d, rfl⟩
  · exact ⟨by rw [L_tc]; exact Finset.mem_singleton_self _, by rw [lv_rcv]; omega⟩
  · exact ⟨by rw [L_tc]; exact Finset.mem_singleton_self _, by rw [lv_bar]; omega⟩

/-- The staging copies' semaphores have the lowest level. -/
theorem lv_stage : ∀ (w : Fin 6) (s : Fin (spec0 w).nbuf), lvS (.dma ((spec0 w).sem s)) = 0 := by decide

/-- All that is owed at any point has a level above zero. -/
theorem cutD (c : Dev nD) (t : Fin (cfg0.N + 1)) (g : GSem nD τ sig) (i : Unit) (h : 0 < (dat0 V c).owed t g i) : i ∈ L g ∧ (0 : ℕ) < lv g i := by
  rcases t with ⟨_ | t, ht⟩
  · exact O₀_pos h
  · exact absurd h (Nat.lt_irrefl 0)

/-- Before the call the arrays are as they were. -/
theorem arrAt_zero (c : Dev nD) (w : Fin 6) : (dat0 V c).arrAt w 0 = V c (Proc.devRef .tc (Pipeline.arrRef spec0 w)) := rfl

/-- After the call the arrays are as stated. -/
theorem arrAt_last (c : Dev nD) (w : Fin 6) : (dat0 V c).arrAt w cfg0.N = W2 V c (Proc.devRef .tc (Pipeline.arrRef spec0 w)) := by
  have hi (w : Fin 6) (hw : (cfg0.win w).isOut = false) (hne : (Proc.devRef .tc (Pipeline.arrRef spec0 w) : DevRef τ sig) ≠ Proc.devRef .tc main_v18) :
      (dat0 V c).arrAt w cfg0.N = W2 V c (Proc.devRef .tc (Pipeline.arrRef spec0 w)) :=
    ((dat0 V c).arrAt_in w hw _).trans (W2_of V c _ hne).symm
  match w with
  | 0 => exact hi 0 rfl (by decide)
  | 1 => exact hi 1 rfl (by decide)
  | 2 => exact hi 2 rfl (by decide)
  | 3 => exact hi 3 rfl (by decide)
  | 4 => exact hi 4 rfl (by decide)
  | 5 =>
    refine Eq.trans ?_ (W2_out V c).symm
    rw [show cfg0.N = (t0_0 : Fin cfg0.N).val + 1 from rfl, (dat0 V c).arrAt_succ (5 : Fin 6) t0_0]
    rw [flush0_5 t0_0, if_pos rfl]
    have hf : (dat0 V c).flushed 5 t0_0 = outAt (Xd V) c := rfl
    rw [hf]
    exact Memref.write_access_unit_zero_univ (Elt F) main_v18 (funext fun a => Nat.zero_mul _) _ _ (outAt (Xd V) c)

set_option backward.isDefEq.respectTransparency.types false in
/-- The kernel call's record. -/
def reg0 : Pipeline.RegionSeg (Name := ℕ) (U := UU) (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ (Pipeline.ucRefs τ sig \ Pipeline.arrRefs (τ := τ) spec0) (Finset.empty_subset _) kitP rfl (fun c => (body_obligation V c).loose)
    (fun _ => 0) O₀ (fun c => (zero_add (O₀ c)).symm) (fun _ => rfl) (fun _ => rfl)
    (fun c w => by unfold Dat.share; split <;> rfl)
    (V) (W2 V)
    (fun c b hb => by
      refine W2_of V c b (fun e => ?_)
      subst e
      rw [Finset.sdiff_empty] at hb
      exact (Finset.mem_sdiff.mp hb).2 (Finset.mem_map_of_mem _ (Finset.mem_image.mpr ⟨(5 : Fin 6), Finset.mem_univ _, rfl⟩)))
    (Tk V) Yk (Xk V) Yk (hopen V) (hin V) (hout V)
    (fun c => by iintro H; imodintro; iexact H)
    (fun _ => 0)
    ⟨fun _ _ _ => by rw [L_tc]; exact Finset.mem_singleton_self _, fun _ w s => le_of_eq (lv_stage w s), fun c t g i h => cutD V c t g i h⟩
    (fun _ => iprop(emp))
    (arrAt_zero V) (arrAt_last V)

end Cert.KernelIdeal.P

end
-- ==== Proof.Run.lean ====
/-
  The launch: the exchange's cells funded, the tokens of the duties handed to the devices that pay them, the launch credit
  counted, and the run of the whole program on four devices: it ends, every argument as launched, every counter at zero, the
  result buffer the reshape of what the kernel call leaves.
-/
module

public import proofs.«01_k».proof.Proof.Region

@[expose] public section

noncomputable section

namespace Cert.KernelIdeal.P

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

/-! ## Tokens -/

/-- No barrier cell is a copy's cell. -/
theorem cells_apart : Disjoint (barCells : Finset (GSem nD τ sig)) scCells := by
  rw [Finset.disjoint_left]
  intro g hb hs
  obtain ⟨c, -, rfl⟩ := Finset.mem_map.mp hb
  obtain ⟨e, -, he⟩ := Finset.mem_map.mp hs
  exact osem_ne_bar e.2 (congrArg Prod.snd he)

/-- The barrier's two duties of every device. -/
def barToks : Finset (GSem nD τ sig × ℕ × Bool) :=
  (Finset.univ : Finset (Dev nD × Bool)).map ⟨fun p => (barCell p.1, 0, p.2), fun _ _ h =>
    Prod.ext (congrArg (fun t : GSem nD τ sig × ℕ × Bool => t.1.1.1) h) (congrArg (fun t : GSem nD τ sig × ℕ × Bool => t.2.2) h)⟩
/-- The one duty of every send and receive cell. -/
def dmaToks : Finset (GSem nD τ sig × ℕ × Bool) :=
  (Finset.univ : Finset (Dev nD × CK)).map ⟨fun p => (scEmb p, 0, false), fun _ _ h => scEmb.injective (congrArg Prod.fst h)⟩

/-- The barrier's tokens are not the copies'. -/
theorem toks_apart : Disjoint barToks dmaToks := by
  rw [Finset.disjoint_left]
  intro t hb hs
  obtain ⟨p, -, rfl⟩ := Finset.mem_map.mp hb
  obtain ⟨e, -, he⟩ := Finset.mem_map.mp hs
  exact osem_ne_bar e.2 (congrArg (fun t : GSem nD τ sig × ℕ × Bool => t.1.2) he)

/-- The barrier's tokens, by device. -/
theorem barToks_eq : bigSep barToks (fun x => (dutyTok ER x.1 x.2.1 x.2.2 : sProp 𝕄))
    = iprop((bigSep Finset.univ fun c : Dev nD => dutyTok ER (barCell c) 0 false) ∗ bigSep Finset.univ fun c : Dev nD => dutyTok ER (barCell c) 0 true) := by
  unfold barToks
  rw [bigSep_map, bigSep_univ_prod, ← bigSep_sep']
  exact bigSep_congr fun c _ => bigSep_univ_eq_bigSepL [false, true] (by decide) (by decide) _

/-- The copies' tokens, by device. -/
theorem dmaToks_eq : bigSep dmaToks (fun x => (dutyTok ER x.1 x.2.1 x.2.2 : sProp 𝕄))
    = iprop((bigSep Finset.univ fun c : Dev nD => all fun s k => dutyTok ER (sndCell c s k) 0 false)
      ∗ bigSep Finset.univ fun c : Dev nD => all fun s k => dutyTok ER (rcvCell c s k) 0 false) := by
  unfold dmaToks
  rw [bigSep_map, bigSep_univ_prod, ← bigSep_sep']
  exact bigSep_congr fun c _ => bigSep_CK (fun e : CK => (dutyTok ER ((c : Thread nD τ), osem e) 0 false : sProp 𝕄))

/-- A separating conjunction over devices and chunks, devices inside. -/
theorem all_dev (P : Dev nD → Fin 3 → Fin 4 → sProp 𝕄) :
    (bigSep Finset.univ fun c => all (P c)) = all fun s k => bigSep Finset.univ fun c => P c s k := by
  simp only [all, four, bigSep_sep']

def p1E : Dev nD ≃ Dev nD := ⟨p1, p1, p1_p1, p1_p1⟩
def p2E : Dev nD ≃ Dev nD := ⟨p2, p2, p2_p2, p2_p2⟩
def peerE (s : Fin 3) : Dev nD ≃ Dev nD := ⟨peer s, peer s, peer_peer s, peer_peer s⟩

/-- What a device pays: a unit to each partner's barrier, its twelve send duties, its partners' receive duties. -/
def pays (c : Dev nD) : sProp 𝕄 :=
  iprop(dutyTok ER (barCell (p1 c)) 0 false ∗ dutyTok ER (barCell (p2 c)) 0 true
    ∗ all (fun s k => dutyTok ER (sndCell c s k) 0 false) ∗ all (fun s k => dutyTok ER (rcvCell (peer s c) s k) 0 false))

/-- The tokens, dealt to the devices that pay them. -/
theorem toks_dealt : bigSep (barToks ∪ dmaToks) (fun x => (dutyTok ER x.1 x.2.1 x.2.2 : sProp 𝕄)) ⊢ bigSep Finset.univ fun c : Dev nD => pays c := by
  have hr : (bigSep Finset.univ fun c : Dev nD => (all fun s k => dutyTok ER (rcvCell c s k) 0 false : sProp 𝕄))
      = bigSep Finset.univ fun c : Dev nD => all fun s k => dutyTok ER (rcvCell (peer s c) s k) 0 false := by
    rw [all_dev, all_dev]
    congr 1
    funext s k
    exact bigSep_univ_equiv (peerE s) fun c : Dev nD => (dutyTok ER (rcvCell c s k) 0 false : sProp 𝕄)
  rw [bigSep_union toks_apart, barToks_eq, dmaToks_eq, hr, bigSep_univ_equiv p1E (fun c : Dev nD => (dutyTok ER (barCell c) 0 false : sProp 𝕄)),
    bigSep_univ_equiv p2E (fun c : Dev nD => (dutyTok ER (barCell c) 0 true : sProp 𝕄))]
  unfold pays
  rw [bigSep_sep', bigSep_sep', bigSep_sep']
  exact BI.sep_assoc

/-! ## The launch credit -/

/-- Barrier cells of different devices differ. -/
theorem bar_inj {c d : Dev nD} (h : barCell c = barCell d) : c = d := congrArg (fun g : GSem nD τ sig => g.1.1) h
/-- Receive cells of different devices or chunks differ. -/
theorem rcv_inj {c d : Dev nD} {s s' : Fin 3} {k k' : Fin 4} (h : rcvCell c s k = rcvCell d s' k') : c = d ∧ (s, k) = (s', k') := by
  refine ⟨congrArg (fun g : GSem nD τ sig => g.1.1) h, ?_⟩
  have h2 : osem (true, s, k) = osem (true, s', k') := congrArg Prod.snd h
  exact congrArg Prod.snd (osem_inj h2)

/-- The copies owe the barrier nothing. -/
theorem rem_bar (d c : Dev nD) (l : List (Fin 3 × Fin 4)) : rem d l (barCell c) () = 0 := by
  by_contra h
  obtain ⟨e, -, he⟩ := rem_pos d l (barCell c) () (Nat.pos_of_ne_zero h)
  exact osem_ne_bar (true, e.1, e.2) (congrArg Prod.snd he).symm

/-- Each device owes its two partners' barriers one unit. -/
theorem owed_bar (d c : Dev nD) : O₀ d (barCell c) () = (if d = p2 c then 1 else 0) + (if d = p1 c then 1 else 0) := by
  show rem d all12 (barCell c) () + tallyAt (barCell (p2 d)) () 1 (barCell c) () + tallyAt (barCell (p1 d)) () 1 (barCell c) () = _
  rw [rem_bar, Nat.zero_add, tallyAt_apply, tallyAt_apply]
  have h1 : (barCell c = barCell (p1 d) ∧ () = ()) ↔ d = p1 c :=
    ⟨fun h => by rw [bar_inj h.1, p1_p1], fun h => by subst h; exact ⟨by rw [p1_p1], rfl⟩⟩
  have h2 : (barCell c = barCell (p2 d) ∧ () = ()) ↔ d = p2 c :=
    ⟨fun h => by rw [bar_inj h.1, p2_p2], fun h => by subst h; exact ⟨by rw [p2_p2], rfl⟩⟩
  rw [if_congr h1 rfl rfl, if_congr h2 rfl rfl]

/-- What the listed copies owe a receive cell. -/
theorem rem_rcv (d c : Dev nD) (s : Fin 3) (k : Fin 4) (l : List (Fin 3 × Fin 4)) :
    rem d l (rcvCell c s k) () = if d = peer s c then N * l.count (s, k) else 0 := by
  induction l with
  | nil => show 0 = _; split <;> rfl
  | cons e l ih =>
    rcases e with ⟨s', k'⟩
    show rem d l (rcvCell c s k) () + tallyAt (rcvCell (peer s' d) s' k') () N (rcvCell c s k) () = _
    rw [ih, tallyAt_apply, List.count_cons]
    by_cases he : ((s', k') == (s, k)) = true
    · obtain ⟨rfl, rfl⟩ := Prod.mk.inj (eq_of_beq he)
      have h1 : (rcvCell c s' k' = rcvCell (peer s' d) s' k' ∧ () = ()) ↔ d = peer s' c :=
        ⟨fun h => by rw [(rcv_inj h.1).1, peer_peer], fun h => by subst h; exact ⟨by rw [peer_peer], rfl⟩⟩
      rw [if_congr h1 rfl rfl]
      by_cases hd : d = peer s' c
      · rw [if_pos hd, if_pos hd, if_pos hd, if_pos he, Nat.mul_add, Nat.mul_one]
      · rw [if_neg hd, if_neg hd, if_neg hd]
    · rw [if_neg he, if_neg (c := rcvCell c s k = rcvCell (peer s' d) s' k' ∧ () = ()) (fun h => he (beq_iff_eq.mpr (rcv_inj h.1).2.symm)), Nat.add_zero, Nat.add_zero]

/-- Every chunk is on the list once. -/
theorem count12 : ∀ (s : Fin 3) (k : Fin 4), all12.count (s, k) = 1 := by decide

/-- Each device owes its partner's receive cell one chunk. -/
theorem owed_rcv (d c : Dev nD) (s : Fin 3) (k : Fin 4) : O₀ d (rcvCell c s k) () = if d = peer s c then N else 0 := by
  show rem d all12 (rcvCell c s k) () + tallyAt (barCell (p2 d)) () 1 (rcvCell c s k) () + tallyAt (barCell (p1 d)) () 1 (rcvCell c s k) () = _
  have hn (e : Dev nD) : ¬ (rcvCell c s k = barCell e ∧ () = ()) := fun h => osem_ne_bar (true, s, k) (congrArg Prod.snd h.1)
  rw [rem_rcv, count12, Nat.mul_one, tallyAt_apply, tallyAt_apply, if_neg (hn _), if_neg (hn _)]
  rfl

/-- All devices together owe a barrier two units. -/
theorem launch_bar (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  rw [Pipeline.launchCredit_owing, Finsupp.single_eq_same, Finset.sum_congr rfl fun d _ => owed_bar d c, Finset.sum_add_distrib,
    Finset.sum_ite_eq' Finset.univ (p2 c) fun _ => 1, Finset.sum_ite_eq' Finset.univ (p1 c) fun _ => 1, if_pos (Finset.mem_univ _), if_pos (Finset.mem_univ _)]

/-- All devices together owe a receive cell one chunk. -/
theorem launch_rcv (c : Dev nD) (s : Fin 3) (k : Fin 4) :
    tallyOn (rcvCell c s k) (launchCredit (Pipeline.owing O₀) 0 (rcvCell c s k)) = (tallyAt (rcvCell c s k) () N : CellTallies nD τ sig Unit) := by
  unfold tallyAt
  refine congrArg _ (Finsupp.ext fun u => ?_)
  rw [Pipeline.launchCredit_owing, Finsupp.single_eq_same, Finset.sum_congr rfl fun d _ => owed_rcv d c s k,
    Finset.sum_ite_eq' Finset.univ (peer s c) fun _ => N, if_pos (Finset.mem_univ _)]

/-- The receive semaphores, by stage and chunk. -/
def rcvEmb : Fin 3 × Fin 4 ↪ SemLoc sig := ⟨fun e => osem (true, e), fun _ _ h => congrArg Prod.snd (osem_inj h)⟩

/-- The launch credit of a device: its barrier's two units, its twelve landings. -/
theorem creds (c : Dev nD) :
    (Pipeline.launchCred O₀ c : sProp 𝕄) ⊢ iprop(cred (tallyAt (barCell c) () 2) ∗ all fun s k => cred (tallyAt (rcvCell c s k) () N)) := by
  unfold Pipeline.launchCred
  rw [bigSep_univ_at _ (SemLoc.reg barrier0), launch_bar]
  refine sep_mono_right ((bigSep_subset (t := (Finset.univ : Finset (Fin 3 × Fin 4)).map rcvEmb) fun sm h => ?_).trans ?_)
  · obtain ⟨e, -, rfl⟩ := Finset.mem_map.mp h
    exact Finset.mem_erase.mpr ⟨osem_ne_bar (true, e), Finset.mem_univ _⟩
  · rw [bigSep_map, ← bigSep_all]
    exact Entails.of_eq (bigSep_congr fun e _ => congrArg cred (launch_rcv c e.1 e.2))

/-! ## The thread's states -/

section

variable (m : (ℓ : Loc nD τ sig) → Buf (Elt F) ℓ) (ρ : Dev nD → PrngReg)

/-- What the call leaves in the result array. -/
def outsOf : Outs (F := F) := fun _ r c => W2 (V1 m) c r

/-- The arrays after the call. -/
theorem V2_eq (c : Dev nD) : V2 m (outsOf m) c = W2 (V1 m) c := by
  show Function.update (V1 m c) (Proc.devRef .tc main_v18) (W2 (V1 m) c main_v18) = _
  rw [W2_out]; rfl

/-- Beside the buffers: before the call and after it. -/
def E (j : Fin 2) (c : Dev nD) : sProp 𝕄 :=
  if j = 0 then iprop(Tk (V1 m) c ∗ (∃ r, prngReg c r) ∗ ∃ W, owes (c : Thread nD τ) (O₀ c) W)
  else iprop(semVal (barCell c) 0 ∗ ∃ W, owes (c : Thread nD τ) (0 : CellTallies nD τ sig Unit) W)

/-- What is kept beside the arrays before the call. -/
theorem E_zero (c : Dev nD) : E m 0 c = iprop(Tk (V1 m) c ∗ (∃ r, prngReg c r) ∗ ∃ W, owes (c : Thread nD τ) (O₀ c) W) := if_pos rfl
/-- What is kept beside the arrays after the call. -/
theorem E_one (c : Dev nD) : E m 1 c = iprop(semVal (barCell c) 0 ∗ ∃ W, owes (c : Thread nD τ) (0 : CellTallies nD τ sig Unit) W) := if_neg (by decide)

end

/-- The kernel call's buffers and the others. -/
theorem held_parts (c : Dev nD) (U : Valuation τ sig (Elt F)) :
    (StableHlo.held (c.tc : Thread nD τ) (Pipeline.ucRefs τ sig) U : sProp 𝕄)
      = iprop(StableHlo.held (c.tc : Thread nD τ) (Pipeline.arrRefs (τ := τ) spec0) U
        ∗ StableHlo.held (c.tc : Thread nD τ) (Pipeline.ucRefs τ sig \ Pipeline.arrRefs (τ := τ) spec0) U) :=
  StableHlo.held_sub_split (c.tc : Thread nD τ) (Pipeline.arrRefs_sub_ucRefs spec0 (by decide)) U

/-- The result is one of the call's arrays. -/
theorem out_arr : (Proc.devRef .tc main_v18 : DevRef τ sig) ∈ Pipeline.arrRefs (τ := τ) spec0 := by decide

/-- The call leaves every other array as it was. -/
theorem rest_same (V : Dev nD → Valuation τ sig (Elt F)) (c : Dev nD) :
    (StableHlo.held (c.tc : Thread nD τ) (Pipeline.ucRefs τ sig \ Pipeline.arrRefs (τ := τ) spec0) (V c) : sProp 𝕄)
      = StableHlo.held (c.tc : Thread nD τ) (Pipeline.ucRefs τ sig \ Pipeline.arrRefs (τ := τ) spec0) (W2 V c) := by
  unfold StableHlo.held
  refine bigSep_congr fun b hb => ?_
  rw [W2_of V c b]
  intro e
  rw [e] at hb
  exact (Finset.mem_sdiff.mp hb).2 out_arr

/-- Before the call: all that it needs is held. -/
theorem call_pre (V : Dev nD → Valuation τ sig (Elt F)) (c : Dev nD) :
    iprop(StableHlo.held (c.tc : Thread nD τ) (Pipeline.ucRefs τ sig) (V c) ∗ Tk V c ∗ (∃ r, prngReg c r) ∗ ∃ W, owes (c : Thread nD τ) (O₀ c) W)
      ⊢ ((reg0 V).pre c : sProp 𝕄) := by
  show _ ⊢ iprop(StableHlo.held (c.tc : Thread nD τ) (Pipeline.arrRefs (τ := τ) spec0) (V c) ∗ (∃ r, prngReg c r)
    ∗ (StableHlo.held (c.tc : Thread nD τ) (Pipeline.ucRefs τ sig \ Pipeline.arrRefs (τ := τ) spec0) (V c) ∗ emp) ∗ Tk V c
    ∗ ∃ W, owes (c : Thread nD τ) (0 + O₀ c) W)
  rw [zero_add, held_parts]
  iintro ⟨⟨Ha, Hb⟩, HT, Hp, HO⟩
  isplitl [Ha]; · iexact Ha
  isplitl [Hp]; · iexact Hp
  isplitl [Hb]
  · isplitl [Hb]; · iexact Hb
    iempintro
  isplitl [HT]; · iexact HT
  iexact HO

/-- After the call: the arrays are as stated, the barrier's counter at zero. -/
theorem call_post (V : Dev nD → Valuation τ sig (Elt F)) (c : Dev nD) :
    ((reg0 V).post c : sProp 𝕄) ⊢ iprop(StableHlo.held (c.tc : Thread nD τ) (Pipeline.ucRefs τ sig) (W2 V c)
      ∗ semVal (barCell c) 0 ∗ ∃ W, owes (c : Thread nD τ) (0 : CellTallies nD τ sig Unit) W) := by
  show iprop(StableHlo.held (c.tc : Thread nD τ) (Pipeline.arrRefs (τ := τ) spec0) (W2 V c) ∗ (∃ r, prngReg c r)
    ∗ (StableHlo.held (c.tc : Thread nD τ) (Pipeline.ucRefs τ sig \ Pipeline.arrRefs (τ := τ) spec0) (V c) ∗ emp) ∗ Yk c
    ∗ ∃ W, owes (c : Thread nD τ) (0 : CellTallies nD τ sig Unit) W) ⊢ _
  rw [held_parts, rest_same]
  unfold Yk
  iintro ⟨Ha, -, ⟨Hb, -⟩, HY, HO⟩
  isplitl [Ha Hb]
  · isplitl [Ha] <;> iassumption
  isplitl [HY]; · iexact HY
  iexact HO

/-! ## The launch -/

/-- The launch element: the pipeline's own cells, the exchange's. -/
def u₀ : UU :=
  (initOf (Pipeline.cells cfgs cellOf_inj) (Pipeline.launchToks cfgs cellOf_inj), launchOf barCells scCells (barToks ∪ dmaToks))

/-- Everything of the exchange, with device 0 until it is dealt out. -/
def parked (c : Dev nD) : sProp 𝕄 := if c = 0 then BI.own (ER (launchOf barCells scCells (barToks ∪ dmaToks))) else iprop(emp)

/-- The protocol's launch state, kept with device 0. -/
theorem parked_all : bigSep Finset.univ (parked (F := F)) = (BI.own (ER (launchOf barCells scCells (barToks ∪ dmaToks))) : sProp 𝕄) := by
  have h0 (c : Dev nD) (h : c ∈ Finset.univ.erase (0 : Dev nD)) : parked c = (BI.emp : sProp 𝕄) := if_neg (Finset.ne_of_mem_erase h)
  rw [bigSep_univ_at _ (0 : Dev nD), bigSep_congr (Ψ := fun _ => (BI.emp : sProp 𝕄)) h0, BI.bigSep_emp_const]
  exact BI.equiv_iff.mp sep_emp

/-- The only semaphore outside the call is the barrier's. -/
theorem barrier_only (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

variable (m : (ℓ : Loc nD τ sig) → Buf (Elt F) ℓ) (ρ : Dev nD → PrngReg)

/-- Of a device's launch holdings, what the exchange's cells have no part in. -/
def plain (c : Dev nD) : sProp 𝕄 :=
  iprop(StableHlo.held (c : Thread nD τ) (Pipeline.ucRefs τ sig) (V0 m c)
    ∗ (cred (tallyAt (barCell c) () 2) ∗ all fun s k => cred (tallyAt (rcvCell c s k) () N))
    ∗ owes (c : Thread nD τ) (O₀ c) ∅ ∗ ∃ r, prngReg c r)

/-- Of the exchange, what each device is dealt. -/
def dealt (c : Dev nD) : sProp 𝕄 :=
  iprop(atPos ER (barCell c) 0 ∅ 0 ∗ (bigSep Finset.univ fun e : CK => openTok ER ((c : Thread nD τ), osem e)) ∗ pays c)

/-- A device's first state, from what it is dealt. -/
theorem first_state (K : GSem nD τ sig → ℕ) (c : Dev nD) :
    iprop(recs (V1 m) K ∗ (dealt c ∗ plain m c)) ⊢ iprop(StableHlo.held (c : Thread nD τ) (Pipeline.ucRefs τ sig) (V0 m c) ∗ E m 0 c) := by
  rw [E_zero]
  unfold dealt plain pays Tk keep
  iintro ⟨#HR, ⟨HA, HO, H1, H2, HS, HW⟩, Hh, ⟨HC, HL⟩, Ho, Hp⟩
  isplitl [Hh]; · iexact Hh
  isplitr [Hp Ho]
  · isplitr; · iexists K; iexact HR
    isplitl [H1]; · iexact H1
    isplitl [H2]; · iexact H2
    isplitl [HA]; · iexact HA
    isplitl [HC]; · iexact HC
    isplitl [HO]; · iexact HO
    isplitl [HS]; · iexact HS
    isplitl [HW]; · iexact HW
    iexact HL
  isplitl [Hp]; · iexact Hp
  iexists ∅; iexact Ho

/-- From the launch to every device's first state. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hone (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c)
      ⊢ (iprop(plain m c ∗ (semVal (barCell c) 0 ∗ parked c)) : sProp 𝕄) := by
    rw [barrier_only]
    unfold plain
    iintro ⟨Hh, Hb, HO, Hcr, Hp, HG⟩
    isplitr [Hb HG]
    · isplitl [Hh]
      · iapply (Entails.of_eq (Pipeline.unscopedBufs_held (Ix := Unit) (Name := ℕ) (U := UU) (Lvl := ℕ) c (V0 m c)))
        iexact Hh
      isplitl [Hcr]; · iapply (creds (F := F) c); iexact Hcr
      isplitl [HO]; · iexact HO
      iexists (ρ c); iexact Hp
    isplitl [Hb] <;> iassumption
  have hall : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c))
      ⊢ (iprop((bigSep Finset.univ fun c : Dev nD => plain m c) ∗ (bigSep barCells fun g => semVal g 0)
        ∗ BI.own (ER (launchOf barCells scCells (barToks ∪ dmaToks)))) : sProp 𝕄) := by
    refine (bigSep_mono fun c _ => hone c).trans ?_
    rw [bigSep_sep', bigSep_sep', parked_all, bigSep_map (s := Finset.univ) barEmb (Φ := fun g : GSem nD τ sig => (semVal g 0 : sProp 𝕄))]
    exact BI.Entails.refl _
  have hdeal : iprop((bigSep barCells fun g => atPos ER g 0 ∅ 0) ∗ (bigSep scCells fun g => openTok ER g)
        ∗ bigSep (barToks ∪ dmaToks) fun x => dutyTok ER x.1 x.2.1 x.2.2)
      ⊢ (bigSep Finset.univ fun c : Dev nD => dealt c : sProp 𝕄) := by
    refine (sep_mono_right (sep_mono_right toks_dealt)).trans ?_
    unfold dealt
    rw [bigSep_map (s := Finset.univ) barEmb (Φ := fun g : GSem nD τ sig => (atPos ER g 0 ∅ 0 : sProp 𝕄)),
      bigSep_map (s := Finset.univ) scEmb (Φ := fun g : GSem nD τ sig => (openTok ER g : sProp 𝕄)), bigSep_univ_prod, bigSep_sep', bigSep_sep']
    exact BI.Entails.refl _
  iintro ⟨H, -⟩
  ihave H := hall $$ H
  icases H with ⟨HP, Hv, Hu⟩
  imod (Rounds.fund_launch ER (rd (Xd (V1 m))) cells_apart (fun g _ h => h) (barToks ∪ dmaToks)) $$ [Hv Hu] with ⟨%K, -, #Hinv, #Hr, Hat, Hopen, Htok⟩
  · isplitl [Hv]; · iexact Hv
    iexact Hu
  imodintro
  iapply (bigSep_with_persistent (R := recs (V1 m) K) (Φ := fun c => iprop(dealt c ∗ plain m c)) fun c _ => first_state m K c)
  isplitr
  · unfold recs
    isplitr; · iexact Hinv
    iexact Hr
  rw [bigSep_sep']
  isplitr [HP]
  · iapply hdeal
    isplitl [Hat]; · iexact Hat
    isplitl [Hopen]; · iexact Hopen
    iexact Htok
  iexact HP

/-- The only semaphore outside the call is the barrier's. -/
theorem barrier_is : ∀ sm : SemLoc sig, sm.isScoped .tc = false → sm = .reg barrier0 := by decide

/-! ## The run -/

/-- What every run ends in: the arguments as launched, the result buffer at its last value, every counter at zero. -/
def Ends (s : MemSt nD τ sig (Elt F)) : Prop :=
  (∀ c : Dev nD, (s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
    ∧ s.mem ((c : Thread nD τ).loc main_v19) = V3 m (outsOf m) c main_v19)
  ∧ s.sem = fun _ => 0

set_option backward.isDefEq.respectTransparency.types false in
/-- The whole program runs to its end, with the results as stated. -/
theorem run_main : θ_run defs (onTc (τ := τ) (main (F := F))) ⟨m, fun _ => 0, ρ⟩ (fun r => Ends m r.2) := by
  refine Pipeline.θ_run_regions_kit_dev_sems (pcfgs (F := F)) adm (pdats (V1 m)) () cellOf_inj EP defs₀ 𝒱₀ L lv m ρ main
    (segs m (outsOf m) 𝒱₀ L lv (E m) () (pdats (V1 m)) (reg0 (V1 m)))
    (fun c Q => by
      rewrite [main_chain c, Seg.run_eq_chain, show (segs m (outsOf m) 𝒱₀ L lv (E m) () (pdats (V1 m)) (reg0 (V1 m)) c).map Seg.prog
        = [StableHlo.seq (hostOps0 c), Prog.lift (.customCall (Pipeline.entry 0) ()), StableHlo.seq hostOps1] from rfl]
      dsimp (config := { failIfUnchanged := false }) only
      exact .rfl)
    (fun c => by simp only [segs, Seg.pipes_host, Seg.pipes_region, Seg.pipes_nil]; decide)
    (O₀ := O₀) (hL := L_of_ne) (G := parked) (u₀ := u₀)
    (hu₀ := ?_)
    (T₀ := fun c : Dev nD => iprop(StableHlo.held (c : Thread nD τ) (Pipeline.ucRefs τ sig) (V0 m c) ∗ E m 0 c))
    (Tₙ := fun c : Dev nD => iprop(StableHlo.held (c : Thread nD τ) (Pipeline.ucRefs τ sig) (V3 m (outsOf m) c) ∗ semVal (barCell c) 0))
    (hch := fun c => ⟨.rfl, ?_, ?_, ?_⟩)
    (hinit := init m ρ)
    (QY := fun c s => ((s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4))
      ∧ s.mem ((c : Thread nD τ).loc main_v19) = V3 m (outsOf m) c main_v19) ∧ s.sem (barCell c) = 0)
    (hfin := fun c s' => ?_)
    (hQ := fun s h hs => ⟨fun c => (h c).1, sem_eq_zero hs fun c sm hsm => by
      obtain rfl := barrier_is sm hsm
      exact (h c).2⟩)
  · unfold u₀
    iintro Hu
    ihave H := (ownU_pair _ _) $$ Hu
    icases H with ⟨HP, HX⟩
    imodintro
    isplitl [HP]; · iexact HP
    rw [parked_all]; iexact HX
  · show iprop(StableHlo.held (c : Thread nD τ) (Pipeline.ucRefs τ sig) (V1 m c) ∗ E m 0 c) ⊢ (reg0 (V1 m)).pre c
    rw [E_zero]
    exact call_pre (V1 m) c
  · show (reg0 (V1 m)).post c ⊢ iprop(StableHlo.held (c : Thread nD τ) (Pipeline.ucRefs τ sig) (V2 m (outsOf m) c) ∗ E m 1 c)
    rw [E_one, V2_eq]
    exact call_post (V1 m) c
  · show iprop(StableHlo.held (c : Thread nD τ) (Pipeline.ucRefs τ sig) (V3 m (outsOf m) c) ∗ E m 1 c) ⊢ _
    rw [E_one]
    iintro ⟨Hh, Hb, HO⟩
    isplitr [HO]
    · isplitl [Hh] <;> iassumption
    iexact HO
  · unfold StableHlo.held
    iintro ⟨⟨Hh, Hb⟩, HSI⟩
    icombine HSI Hb gives %hb
    ihave Hr := (pointsTo_read_all (Pipeline.ucRefs τ sig) (fun b => ((c : Thread nD τ).1, b)) (V3 m (outsOf m) c) s') $$ [Hh HSI]
    · isplitl [Hh] <;> iassumption
    icases Hr with ⟨%h, HSI⟩
    imodintro
    isplitr
    · ipureintro
      have rdb (b : Ref sig .tc) (hb : Proc.devRef .tc b ∈ Pipeline.ucRefs τ sig) := h (Proc.devRef .tc b) hb
      exact ⟨⟨⟨(rdb main_arg0 (Finset.mem_filter.mpr ⟨StableHlo.devRef_mem_tcRefs main_arg0, by decide⟩)).trans (V3_main_arg0 m _ c),
        (rdb main_arg1 (Finset.mem_filter.mpr ⟨StableHlo.devRef_mem_tcRefs main_arg1, by decide⟩)).trans (V3_main_arg1 m _ c),
        (rdb main_arg2 (Finset.mem_filter.mpr ⟨StableHlo.devRef_mem_tcRefs main_arg2, by decide⟩)).trans (V3_main_arg2 m _ c),
        (rdb main_arg3 (Finset.mem_filter.mpr ⟨StableHlo.devRef_mem_tcRefs main_arg3, by decide⟩)).trans (V3_main_arg3 m _ c),
        (rdb main_arg4 (Finset.mem_filter.mpr ⟨StableHlo.devRef_mem_tcRefs main_arg4, by decide⟩)).trans (V3_main_arg4 m _ c)⟩,
        rdb main_v19 (Finset.mem_filter.mpr ⟨StableHlo.devRef_mem_tcRefs main_v19, by decide⟩)⟩, by simpa using hb⟩
    · iexact HSI

end Cert.KernelIdeal.P

end
-- ==== Proof.Printed.lean ====
/-
  The program as compiled and the one read over the extended reals are the same text, no operation replaced between them: what
  is proved of the one's runs at any reading of the floats holds of the other's.
-/
module

public import proofs.«01_k».proof.Proof.Run
public import proofs.«01_k».proof.Proof.Gen.Kernel

@[expose] public section

noncomputable section

namespace Cert.Kernel.P

open Idealize.ShloMosaic Idealize.ShloMosaic.TcCoe Idealize.SL.Sem

variable {F : FTy → Type} [FloatOps F]

/-- The two programs have the same text. -/
theorem main_same : Cert.Kernel.main (F := F) = Cert.KernelIdeal.main (F := F) := rfl

/-- Their kernels have the same body. -/
theorem bodies_same : Cert.Kernel.defs₀ (F := F) = Cert.KernelIdeal.defs₀ (F := F) := by
  unfold Cert.Kernel.defs₀ Cert.KernelIdeal.defs₀
  congr 1
  funext l a
  match l, a with
  | 0, (t, s) => rfl

/-- Their definitions are the same. -/
theorem defs_same : Cert.Kernel.defs (F := F) = Cert.KernelIdeal.defs (F := F) := by
  unfold Cert.Kernel.defs Cert.KernelIdeal.defs
  exact congrArg (Pipeline.defs (Cert.KernelIdeal.pcfgs (F := F))) bodies_same

/-- Every run of the program as compiled ends as `Run.lean` says of the other's. -/
theorem run_main (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩
      (fun r => Cert.KernelIdeal.P.Ends (F := F) m r.2) := by
  rw [defs_same, main_same]
  exact Cert.KernelIdeal.P.run_main (F := F) m ρ

end Cert.Kernel.P

end
-- ==== Proof.Frames.lean ====
/-
  The three frames: each program ends with its arguments as they were and every counter at zero.
-/
module

public import proofs.«01_k».proof.Defs
public import proofs.«01_k».proof.Proof.Run
public import proofs.«01_k».proof.Proof.Printed
public import proofs.«01_k».proof.Proof.Gen.ReferenceIdeal.Run
public import Idealize.ShloMosaic.Lib.Quiescent
public import Idealize.ShloMosaic.Lib.StableHlo.RunHlo

@[expose] public section

noncomputable section

namespace Cert.Proof

open Idealize.ShloMosaic Idealize.ShloMosaic.TcCoe Idealize.SL.Sem

/-- The side conditions the precondition's operations state, at the kernel's shapes. -/
theorem preK : Cert.Pre_finite_qk_KernelIdeal.Facts := by
  refine ⟨?_, ?_, ?_, ?_, ?_, ?_, ?_⟩ <;> decide

/-- The same at the reference's shapes. -/
theorem preR : Cert.Pre_finite_qk_ReferenceIdeal.Facts := by
  refine ⟨?_, ?_, ?_, ?_, ?_, ?_, ?_⟩ <;> decide

/-- The frame of the program as compiled. -/
theorem frameK : Cert.quiescent_Kernel (hKernel := Cert.Kernel.Gen.facts) := by
  intro m g _
  exact θ_run_mono (Cert.Kernel.P.run_main (F := Bits) m g) fun r h => ⟨fun c => (h.1 c).1, h.2⟩

/-- The frame of the idealized program. -/
theorem frameKI : Cert.quiescent_KernelIdeal (hKernelIdeal := Cert.KernelIdeal.Gen.facts) := by
  intro m g _
  exact θ_run_mono (Cert.KernelIdeal.P.run_main (F := Ideal) m g) fun r h => ⟨fun c => (h.1 c).1, h.2⟩

/-- The frame of the reference. -/
theorem frameRI : Cert.quiescent_ReferenceIdeal (hReferenceIdeal := Cert.ReferenceIdeal.Gen.facts) := by
  intro m g _
  exact θ_run_mono (Cert.ReferenceIdeal.Value.run (F := Ideal) m g)
    fun r h => ⟨fun c => (h c).2, sem_eq_zero_of_no_sems (by decide) r.2⟩

end Cert.Proof

end
-- ==== Proof.Slabs.lean ====
/-
  The four slabs a device computes, in one form: a head at a time, the heads side by side, the output weights. The body's
  text cuts this computation into pieces at different places for every head; the pieces are put together again here.
-/
module

public import proofs.«01_k».proof.Proof.Vals

@[expose] public section

noncomputable section

namespace Cert.KernelIdeal.P

open Cert.KernelIdeal Cert.KernelIdeal.Gen
open Idealize.ShloMosaic

variable {F : FTy → Type} [FloatOps F]

/-- The queries of a slab: the device's 512 columns, eight heads of 64. -/
def queries (wq : FVec F S768x512 .bf16) (x : Vec F S256x768 .bf16) : FVec F S256x512 .f32 :=
  matmul dot_S256x768_S768x512_S256x512_1_0_0_1_n_n none (shapeCast S256x768 x shapeCasts_S256x768_S256x768) wq
    (constant S256x512 .f32 0x00000000#32)

/-- One head's queries, an eighth of them, as the scores' product takes them. -/
def headQ (q : FVec F S256x512 .f32) (h : Fin 8) : FVec F S256x64 .bf16 :=
  truncf .bf16 (mulf (extractStridedSlice S256x64 ![0, 64 * h.val] q (by revert h; decide))
    (broadcast S256x64 (Scalar.ofBits .f32 0x3E000000#32 : F .f32))) bitsLt_bf16_f32

/-- One head over the first 256 keys. -/
def head0 (q : FVec F S256x512 .f32) (mk : FVec F S256x256 .f32) (h : Fin 8) (k v : Vec F S1x1x512x64 .bf16) : FVec F S256x64 .bf16 :=
  have kk : FVec F S256x64 .bf16 :=
    extractStridedSlice S256x64 ![0, 0] (shapeCast S512x64 k shapeCasts_S1x1x512x64_S512x64) slices_S512x64_o0_0_S256x64
  have vv : FVec F S256x64 .bf16 :=
    extractStridedSlice S256x64 ![0, 0] (shapeCast S512x64 v shapeCasts_S1x1x512x64_S512x64) slices_S512x64_o0_0_S256x64
  have w : FVec F S256x256 .f32 :=
    mulf (exp (matmul dot_S256x64_S256x64_S256x256_1_1_0_0_n_n none (headQ q h) kk (constant S256x256 .f32 0x00000000#32))) mk
  have d : FVec F S256x1 .f32 :=
    shapeCast S256x1 (multiReduction .add [1] S256 w 0x00000000#32 reduces_S256x256_S256 (.inl rfl) rfl) shapeCasts_S256_S256x1
  truncf .bf16 (divf (matmul dot_S256x256_S256x64_S256x64_1_0_0_1_n_n none (truncf .bf16 w bitsLt_bf16_f32) vv
    (constant S256x64 .f32 0x00000000#32)) (broadcastTo S256x64 d broadcasts_S256x1_S256x64)) bitsLt_bf16_f32

/-- One head over all 512 keys. -/
def head1 (q : FVec F S256x512 .f32) (mk : FVec F S256x512 .f32) (h : Fin 8) (k v : Vec F S1x1x512x64 .bf16) : FVec F S256x64 .bf16 :=
  have kk : FVec F S512x64 .bf16 := shapeCast S512x64 k shapeCasts_S1x1x512x64_S512x64
  have vv : FVec F S512x64 .bf16 := shapeCast S512x64 v shapeCasts_S1x1x512x64_S512x64
  have w : FVec F S256x512 .f32 :=
    mulf (exp (matmul dot_S256x64_S512x64_S256x512_1_1_0_0_n_n none (headQ q h) kk (constant S256x512 .f32 0x00000000#32))) mk
  have d : FVec F S256x1 .f32 :=
    shapeCast S256x1 (multiReduction .add [1] S256 w 0x00000000#32 reduces_S256x512_S256 (.inl rfl) rfl) shapeCasts_S256_S256x1
  truncf .bf16 (divf (matmul dot_S256x512_S512x64_S256x64_1_0_0_1_n_n none (truncf .bf16 w bitsLt_bf16_f32) vv
    (constant S256x64 .f32 0x00000000#32)) (broadcastTo S256x64 d broadcasts_S256x1_S256x64)) bitsLt_bf16_f32

/-- Eight heads of 64 columns make 512 columns. -/
theorem cat8 : Shape.Concatenates [S256x64, S256x64, S256x64, S256x64, S256x64, S256x64, S256x64, S256x64] S256x512 1 := by decide

/-- Eight heads side by side, times the device's rows of the output weights. -/
def project (wo : FVec F S512x768 .bf16) (hs : Fin 8 → FVec F S256x64 .bf16) : FVec F S256x768 .f32 :=
  matmul dot_S256x512_S512x768_S256x768_1_0_0_1_n_n none
    (concatenate S256x512 1 [⟨S256x64, hs 0⟩, ⟨S256x64, hs 1⟩, ⟨S256x64, hs 2⟩, ⟨S256x64, hs 3⟩, ⟨S256x64, hs 4⟩, ⟨S256x64, hs 5⟩,
      ⟨S256x64, hs 6⟩, ⟨S256x64, hs 7⟩] cat8 : FVec F S256x512 .bf16) wo (constant S256x768 .f32 0x00000000#32)

/-- The slab of rows 0 to 255. -/
def slab0 (wo : FVec F S512x768 .bf16) (q : FVec F S256x512 .f32) (mk : FVec F S512x512 .f32) (k v : Fin 8 → Vec F S1x1x512x64 .bf16) :
    FVec F S256x768 .f32 :=
  project wo fun h => head0 q (extractStridedSlice S256x256 ![0, 0] mk slices_S512x512_o0_0_S256x256) h (k h) (v h)

/-- The slab of rows 256 to 511. -/
def slab1 (wo : FVec F S512x768 .bf16) (q : FVec F S256x512 .f32) (mk : FVec F S512x512 .f32) (k v : Fin 8 → Vec F S1x1x512x64 .bf16) :
    FVec F S256x768 .f32 :=
  project wo fun h => head1 q (extractStridedSlice S256x512 ![256, 0] mk slices_S512x512_o256_0_S256x512) h (k h) (v h)

variable (c : Dev nD) (I : In F)

/-- The eight heads' keys (or values) of the batch computed first, as loaded. -/
def hdsA (X : Vec F S2x8x512x64 .bf16) : Fin 8 → Vec F S1x1x512x64 .bf16 :=
  ![hd _ (k0_off2_inb c) X, hd _ (k0_off3_inb c) X, hd _ (k0_off4_inb c) X, hd _ (k0_off5_inb c) X,
    hd _ (k0_off6_inb c) X, hd _ (k0_off7_inb c) X, hd _ (k0_off8_inb c) X, hd _ (k0_off9_inb c) X]
/-- The eight heads' keys (or values) of the batch computed second, as loaded. -/
def hdsB (X : Vec F S2x8x512x64 .bf16) : Fin 8 → Vec F S1x1x512x64 .bf16 :=
  ![hd _ (k0_off11_inb c) X, hd _ (k0_off12_inb c) X, hd _ (k0_off13_inb c) X, hd _ (k0_off14_inb c) X,
    hd _ (k0_off15_inb c) X, hd _ (k0_off16_inb c) X, hd _ (k0_off17_inb c) X, hd _ (k0_off18_inb c) X]

/-- The first slab sent is the first batch's rows 0 to 255. -/
theorem w0_eq : w0 c I = shapeCast S1x256x768
    (truncf .bf16 (slab0 (woL I) (queries (wqL I) (x0 c I)) mask (hdsA c I.k) (hdsA c I.v)) bitsLt_bf16_f32) shapeCasts_S256x768_S1x256x768 := rfl

/-- The second slab sent is the first batch's rows 256 to 511. -/
theorem w1_eq : w1 c I = shapeCast S1x256x768
    (truncf .bf16 (slab1 (woL I) (queries (wqL I) (x1 c I)) mask (hdsA c I.k) (hdsA c I.v)) bitsLt_bf16_f32) shapeCasts_S256x768_S1x256x768 := rfl

/-- The first slab kept is the second batch's rows 0 to 255. -/
theorem m0_eq : m0 c I = slab0 (woL I) (queries (wqL I) (x2 c I)) mask (hdsB c I.k) (hdsB c I.v) := rfl

/-- The second slab kept is the second batch's rows 256 to 511. -/
theorem m1_eq : m1 c I = slab1 (woL I) (queries (wqL I) (x3 c I)) mask (hdsB c I.k) (hdsB c I.v) := rfl

end Cert.KernelIdeal.P

end
-- ==== Proof.Attn.lean ====
/-
  Block-causal attention over the extended reals, as mathematics: what a head gives at a row, written once, and the two
  ways of computing it: the kernel's (no maximum taken out, the masked weights zeroed by a product) and the reference's
  (the row's maximum taken out, the masked scores at minus infinity).
-/
module

public import Idealize.ShloMosaic.PureOps.Ideal
public import Idealize.ShloMosaic.PureOps.Ideal.Laws

@[expose] public section

noncomputable section

namespace Cert.Attn

open Idealize.ShloMosaic

/-! ## Sums -/

/-- A sum of reals, among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A nonnegative real factor moves into a sum of extended reals. -/
theorem sum_mul_real {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A sum over an axis cut into blocks. -/
theorem sum_blocks {M : Type*} [AddCommMonoid M] (a b : Nat) {N : Nat} (hN : a * b = N) (f : Fin N → M) :
    ∑ x, f x = ∑ i : Fin a, ∑ j : Fin b, f ⟨b * i.val + j.val, by
      subst hN
      calc b * i.val + j.val < b * i.val + b := by omega
        _ = b * (i.val + 1) := by ring
        _ ≤ b * a := Nat.mul_le_mul_left _ i.isLt
        _ = a * b := Nat.mul_comm _ _⟩ := by
  subst hN
  rw [← Fintype.sum_prod_type', ← Equiv.sum_comp finProdFinEquiv]
  refine Finset.sum_congr rfl fun x _ => congrArg f (Fin.ext ?_)
  simp [finProdFinEquiv, Nat.add_comm]

/-- The scale the kernel and the reference multiply by is an eighth. -/
theorem eighth : Ideal.ofBits .f32 0x3E000000#32 = ((1 / 8 : ℝ) : EReal) := by
  simp [Ideal.ofBits, Ideal.ieee, -EReal.coe_mul]; norm_num

/-- The masked scores' filler is minus infinity. -/
theorem bottom : Ideal.ofBits .f32 0xFF800000#32 = (⊥ : EReal) := by
  simp [Ideal.ofBits, Ideal.ieee]

/-! ## One row of one head -/

section Row

variable {N : Nat} (s : Fin N → ℝ) (al : Fin N → Prop) [DecidablePred al] (v : Fin N → EReal)

/-- A key's weight: zero where the mask is off. -/
def wt (j : Fin N) : ℝ := if al j then Real.exp (s j) else 0

/-- No weight is negative. -/
theorem wt_nonneg (j : Fin N) : 0 ≤ wt s al j := by
  unfold wt; split_ifs
  · exact (Real.exp_pos _).le
  · exact le_rfl

/-- With a key that the mask admits, the weights have a positive sum. -/
theorem sum_wt_pos (h : ∃ j, al j) : 0 < ∑ j, wt s al j := by
  obtain ⟨j, hj⟩ := h
  refine Finset.sum_pos' (fun i _ => wt_nonneg s al i) ⟨j, Finset.mem_univ _, ?_⟩
  unfold wt; rw [if_pos hj]; exact Real.exp_pos _

/-- The row of the head: the values' weighted mean. -/
def row : EReal := (∑ j, ((wt s al j : ℝ) : EReal) * v j) * ((1 / ∑ j, wt s al j : ℝ) : EReal)

/-- The kernel's way. -/
theorem row_kernel (h : ∃ j, al j) :
    Ideal.div (∑ j, Ideal.exp (s j : EReal) * (if al j then (1 : EReal) else 0) * v j)
      (∑ j, Ideal.exp (s j : EReal) * (if al j then (1 : EReal) else 0)) = row s al v := by
  have e : ∀ j, Ideal.exp (s j : EReal) * (if al j then (1 : EReal) else 0) = ((wt s al j : ℝ) : EReal) := by
    intro j; unfold wt; rw [Ideal.exp_coe]; split_ifs <;> simp
  simp only [e]
  rw [coe_sum, Ideal.div_coe (sum_wt_pos s al h).ne']
  rfl

/-- The maximum of a row with a key in it is a real number. -/
theorem max_real (h : ∃ j, al j) :
    ∃ M : ℝ, Finset.univ.fold max (⊥ : EReal) (fun j => if al j then (s j : EReal) else ⊥) = (M : EReal) := by
  set X := Finset.univ.fold max (⊥ : EReal) (fun j => if al j then (s j : EReal) else ⊥)
  obtain ⟨j, hj⟩ := h
  have hb : (s j : EReal) ≤ X := (Finset.le_fold_max _).2 (.inr ⟨j, Finset.mem_univ _, by rw [if_pos hj]⟩)
  have ht : X < ⊤ := (Finset.fold_max_lt _).2 ⟨bot_lt_top, fun i _ => by
    split_ifs
    · exact EReal.coe_lt_top _
    · exact bot_lt_top⟩
  exact ⟨X.toReal, (EReal.coe_toReal ht.ne (fun e => absurd (e ▸ hb) (not_le.2 (EReal.bot_lt_coe _)))).symm⟩

/-- The reference's way. -/
theorem row_reference (h : ∃ j, al j) (M : ℝ) :
    ∑ j, v j * Ideal.div (Ideal.exp ((if al j then (s j : EReal) else ⊥) - (M : EReal)))
      (∑ j, Ideal.exp ((if al j then (s j : EReal) else ⊥) - (M : EReal))) = row s al v := by
  have e : ∀ j, Ideal.exp ((if al j then (s j : EReal) else ⊥) - (M : EReal)) = ((wt s al j * Real.exp (-M) : ℝ) : EReal) := by
    intro j; unfold wt; split_ifs
    · rw [← EReal.coe_sub, Ideal.exp_coe, sub_eq_add_neg, Real.exp_add]
    · rw [EReal.bot_sub, Ideal.exp_bot]; simp
  simp only [e]
  have hD := sum_wt_pos s al h
  have hM := Real.exp_pos (-M)
  rw [coe_sum, ← Finset.sum_mul]
  unfold row
  rw [sum_mul_real _ _ _ (by positivity)]
  refine Finset.sum_congr rfl fun j _ => ?_
  rw [Ideal.div_coe (mul_pos hD hM).ne', ← EReal.coe_mul, mul_comm (v j), mul_right_comm ((wt s al j : ℝ) : EReal), ← EReal.coe_mul]
  congr 2
  field_simp

end Row

/-! ## The whole -/

/-- A query row sees the keys of its own block of 64 and of those before. -/
abbrev sees (i j : Fin 512) : Prop := j.val / 64 ≤ i.val / 64

/-- Every position sees at least one key, its own. -/
theorem sees_self (i : Fin 512) : ∃ j, sees i j := ⟨i, le_rfl⟩

variable (x : Fin 2 → Fin 512 → Fin 768 → ℝ) (wq : Fin 768 → Fin 2048 → ℝ) (k : Fin 2 → Fin 512 → Fin 32 → Fin 64 → ℝ)
  (v : Fin 2 → Fin 512 → Fin 32 → Fin 64 → EReal) (wo : Fin 2048 → Fin 768 → EReal)

/-- Head `h`'s column `d`, among all heads' columns. -/
def col (h : Fin 32) (d : Fin 64) : Fin 2048 := ⟨64 * h.val + d.val, by omega⟩

/-- A query. -/
def qry (b : Fin 2) (i : Fin 512) (t : Fin 2048) : ℝ := ∑ m, x b i m * wq m t

/-- A score. -/
def score (b : Fin 2) (h : Fin 32) (i j : Fin 512) : ℝ := (∑ d, qry x wq b i (col h d) * k b j h d) * (1 / 8)

/-- A head's row. -/
def ctx (b : Fin 2) (h : Fin 32) (i : Fin 512) (d : Fin 64) : EReal :=
  row (score x wq k b h i) (sees i) fun j => v b j h d

/-- What some heads contribute to the result. -/
def part (b : Fin 2) (i : Fin 512) (n : Fin 768) (c : Fin 4) : EReal :=
  ∑ h : Fin 8, ∑ d, ctx x wq k v b ⟨8 * c.val + h.val, by omega⟩ i d * wo (col ⟨8 * c.val + h.val, by omega⟩ d) n

/-- The result. -/
def out (b : Fin 2) (i : Fin 512) (n : Fin 768) : EReal :=
  part x wq k v wo b i n 0 + part x wq k v wo b i n 1 + part x wq k v wo b i n 2 + part x wq k v wo b i n 3

/-- All heads' columns at once: the devices' shares of the heads. -/
theorem out_eq (b : Fin 2) (i : Fin 512) (n : Fin 768) :
    ∑ t : Fin 2048, ctx x wq k v b ⟨t.val / 64, by omega⟩ i ⟨t.val % 64, by omega⟩ * wo t n = out x wq k v wo b i n := by
  rw [sum_blocks 32 64 rfl, sum_blocks 4 8 rfl, Fin.sum_univ_four]
  have e (c : Fin 4) (h : Fin 8) (d : Fin 64) (p q) :
      ctx x wq k v b ⟨(64 * (8 * c.val + h.val) + d.val) / 64, p⟩ i ⟨(64 * (8 * c.val + h.val) + d.val) % 64, q⟩
        = ctx x wq k v b ⟨8 * c.val + h.val, by omega⟩ i d := by
    congr 1 <;> exact Fin.ext (by dsimp only; omega)
  simp only [e]
  rfl

end Cert.Attn

end
-- ==== Proof.Heads.lean ====
/-
  The pieces of a slab over the extended reals, read at an index.
-/
module

public import proofs.«01_k».proof.Proof.Slabs
public import proofs.«01_k».proof.Proof.Attn
public import Idealize.ShloMosaic.Lib.Pointwise

@[expose] public section

set_option maxRecDepth 16384

noncomputable section

namespace Cert.KernelIdeal.P

open Cert.KernelIdeal Cert.KernelIdeal.Gen
open Idealize.ShloMosaic

/-- A query entry: a row of activations times a column of the query weights. -/
theorem queries_at (wq : FVec Ideal S768x512 .bf16) (x : Vec Ideal S256x768 .bf16) (r : Fin 256) (t : Fin 512) :
    queries wq x (ix2 r t) = ∑ n : Fin 768, x (ix2 r n) * wq (ix2 n t) := by
  pointwise [queries]

/-- An entry of a head's queries: the head's column, divided by eight. -/
theorem headQ_at (q : FVec Ideal S256x512 .f32) (h : Fin 8) (r : Fin 256) (e : Fin 64) :
    headQ q h (ix2 r e) = q (ix2 r ⟨64 * h.val + e.val, by omega⟩) * ((1 / 8 : ℝ) : EReal) := by
  rw [← Attn.eighth]
  pointwise [headQ]

/-- A head over the first 256 keys, at an index: the masked exponentials' weighted sum of values, over their sum. -/
theorem head0_at (q : FVec Ideal S256x512 .f32) (mk : FVec Ideal S256x256 .f32) (h : Fin 8) (k v : Vec Ideal S1x1x512x64 .bf16)
    (r : Fin 256) (e : Fin 64) :
    head0 q mk h k v (ix2 r e)
      = Ideal.div (∑ j : Fin 256, Ideal.exp (∑ f : Fin 64, headQ q h (ix2 r f) * k (ix4 0 0 ⟨j.val, by omega⟩ f)) * mk (ix2 r j)
            * v (ix4 0 0 ⟨j.val, by omega⟩ e))
          (∑ j : Fin 256, Ideal.exp (∑ f : Fin 64, headQ q h (ix2 r f) * k (ix4 0 0 ⟨j.val, by omega⟩ f)) * mk (ix2 r j)) := by
  pointwise [head0]

/-- A head over all 512 keys, at an index: the masked exponentials' weighted sum of values, over their sum. -/
theorem head1_at (q : FVec Ideal S256x512 .f32) (mk : FVec Ideal S256x512 .f32) (h : Fin 8) (k v : Vec Ideal S1x1x512x64 .bf16)
    (r : Fin 256) (e : Fin 64) :
    head1 q mk h k v (ix2 r e)
      = Ideal.div (∑ j : Fin 512, Ideal.exp (∑ f : Fin 64, headQ q h (ix2 r f) * k (ix4 0 0 j f)) * mk (ix2 r j)
            * v (ix4 0 0 j e))
          (∑ j : Fin 512, Ideal.exp (∑ f : Fin 64, headQ q h (ix2 r f) * k (ix4 0 0 j f)) * mk (ix2 r j)) := by
  pointwise [head1]

/-- Equal heads and equal columns. -/
theorem pick (hs : Fin 8 → FVec Ideal S256x64 .bf16) (r : Fin 256) (a a' : Fin 8) (z z' : Fin 64) (ha : a.val = a'.val)
    (hz : z.val = z'.val) : hs a (ix2 r z) = hs a' (ix2 r z') := by
  rw [Fin.ext ha, Fin.ext hz]

/-- The output product at an index: a sum over the eight heads and over their 64 columns. -/
theorem project_at (wo : FVec Ideal S512x768 .bf16) (hs : Fin 8 → FVec Ideal S256x64 .bf16) (r : Fin 256) (n : Fin 768) :
    project wo hs (ix2 r n) = ∑ h : Fin 8, ∑ e : Fin 64, hs h (ix2 r e) * wo (ix2 ⟨64 * h.val + e.val, by omega⟩ n) := by
  pointwise [project]
  rw [Attn.sum_blocks 8 64 rfl]
  refine Finset.sum_congr rfl fun h _ => Finset.sum_congr rfl fun e _ => ?_
  refine congrArg (· * _) ?_
  have he := e.isLt
  fin_vals h with hk <;>
  · repeat refine (dif_neg (by dsimp only; omega)).trans ?_
    try refine (dif_pos (by dsimp only; omega)).trans ?_
    exact pick hs r _ _ _ _ (by rw [hk]; rfl) (by dsimp only; omega)

/-- The word of a row's block of 64, as the body divides it out. -/
theorem block_word : ∀ n : Fin 512,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by decide +kernel

/-- Blocks compare as their numbers do. -/
theorem block_le : ∀ a b : Fin 8,
    IntOp.cmpi CmpIPredicate.sle (BitVec.ofNat 32 a.val) (BitVec.ofNat 32 b.val) = if a.val ≤ b.val then 1#1 else 0#1 := by decide +kernel

/-- The mask: one where a key's block of 64 is the row's or comes before it. -/
theorem mask_at (r j : Fin 512) : mask (F := Ideal) (ix2 r j) = if j.val / 64 ≤ r.val / 64 then (1 : EReal) else 0 := by
  pointwise [mask, k0_pay6, k0_pay4, k0_pay5]
  rw [block_word, block_word, block_le ⟨j.val / 64, by omega⟩ ⟨r.val / 64, by omega⟩]
  dsimp only
  split_ifs
  · show ((((1#1 : BitVec 1).setWidth 32).toInt : ℝ) : EReal) = 1
    norm_num
  · show ((((0#1 : BitVec 1).setWidth 32).toInt : ℝ) : EReal) = 0
    norm_num

end Cert.KernelIdeal.P

end
-- ==== Proof.Partial.lean ====
/-
  A device's slabs at an index over the extended reals: what its eight heads contribute to the result.
-/
module

public import proofs.«01_k».proof.Proof.Heads

@[expose] public section

set_option maxRecDepth 16384

noncomputable section

namespace Cert.KernelIdeal.P

open Cert.KernelIdeal Cert.KernelIdeal.Gen
open Idealize.ShloMosaic
open Idealize.ShloMosaic.View (ld)

/-! ## A slab -/

section Slab

variable (xr : Fin 2 → Fin 512 → Fin 768 → ℝ) (wr : Fin 768 → Fin 2048 → ℝ) (kr : Fin 2 → Fin 512 → Fin 32 → Fin 64 → ℝ)
  (vv : Fin 2 → Fin 512 → Fin 32 → Fin 64 → EReal) (ww : Fin 2048 → Fin 768 → EReal)

variable (wo : FVec Ideal S512x768 .bf16) (wq : FVec Ideal S768x512 .bf16) (x : Vec Ideal S256x768 .bf16)
  (k v : Fin 8 → Vec Ideal S1x1x512x64 .bf16) (b : Fin 2) (c : Fin 4)

/-- A head's queries. -/
theorem headQ_real (hw : ∀ m t, wq (ix2 m t) = (wr m ⟨512 * c.val + t.val, by omega⟩ : EReal)) (i : Fin 512) (r : Fin 256)
    (hx : ∀ m, x (ix2 r m) = (xr b i m : EReal)) (h : Fin 8) (e : Fin 64) :
    headQ (queries wq x) h (ix2 r e) = ((Attn.qry xr wr b i (Attn.col ⟨8 * c.val + h.val, by omega⟩ e) * (1 / 8) : ℝ) : EReal) := by
  rw [headQ_at, queries_at]
  simp only [hx, hw, ← EReal.coe_mul, Attn.coe_sum]
  unfold Attn.qry Attn.col
  refine congrArg (fun z : ℝ => (z : EReal)) (congrArg (· * _) (Finset.sum_congr rfl fun m _ => ?_))
  exact congrArg (fun z => _ * wr m z) (Fin.ext (by dsimp only; omega))

/-- A head's score. -/
theorem score_real (hw : ∀ m t, wq (ix2 m t) = (wr m ⟨512 * c.val + t.val, by omega⟩ : EReal)) (i : Fin 512) (r : Fin 256)
    (hx : ∀ m, x (ix2 r m) = (xr b i m : EReal)) (h : Fin 8)
    (hk : ∀ j e, k h (ix4 0 0 j e) = (kr b j ⟨8 * c.val + h.val, by omega⟩ e : EReal)) (j : Fin 512) :
    ∑ f : Fin 64, headQ (queries wq x) h (ix2 r f) * k h (ix4 0 0 j f)
      = (Attn.score xr wr kr b ⟨8 * c.val + h.val, by omega⟩ i j : EReal) := by
  simp only [headQ_real xr wr wq x b c hw i r hx, hk, ← EReal.coe_mul, Attn.coe_sum]
  unfold Attn.score
  rw [Finset.sum_mul]
  refine congrArg (fun z : ℝ => (z : EReal)) (Finset.sum_congr rfl fun d _ => ?_)
  ring

/-- The slab of rows 256 to 511. -/
theorem slab1_at (hw : ∀ m t, wq (ix2 m t) = (wr m ⟨512 * c.val + t.val, by omega⟩ : EReal))
    (ho : ∀ t n, wo (ix2 t n) = ww ⟨512 * c.val + t.val, by omega⟩ n)
    (hx : ∀ r m, x (ix2 r m) = (xr b ⟨256 + r.val, by omega⟩ m : EReal))
    (hk : ∀ h j e, k h (ix4 0 0 j e) = (kr b j ⟨8 * c.val + h.val, by omega⟩ e : EReal))
    (hv : ∀ h j e, v h (ix4 0 0 j e) = vv b j ⟨8 * c.val + h.val, by omega⟩ e) (r : Fin 256) (n : Fin 768) :
    slab1 wo (queries wq x) mask k v (ix2 r n) = Attn.part xr wr kr vv ww b ⟨256 + r.val, by omega⟩ n c := by
  unfold slab1 Attn.part
  rw [project_at]
  refine Finset.sum_congr rfl fun h _ => Finset.sum_congr rfl fun e _ => ?_
  have hm : ∀ j, extractStridedSlice S256x512 ![256, 0] (mask (F := Ideal)) slices_S512x512_o256_0_S256x512 (ix2 r j)
      = if Attn.sees ⟨256 + r.val, by omega⟩ j then (1 : EReal) else 0 := by
    intro j; rw [← mask_at]
    generalize mask (F := Ideal) = M
    pointwise []
  rw [head1_at, ho]
  simp only [score_real xr wr kr wq x k b c hw _ r (hx r) h (hk h), hm, hv]
  rw [Attn.row_kernel _ _ _ (Attn.sees_self _)]
  refine congrArg (_ * ·) (congrArg (fun z => ww z n) (Fin.ext ?_))
  dsimp only [Attn.col]; omega

/-- The slab of rows 0 to 255. -/
theorem slab0_at (hw : ∀ m t, wq (ix2 m t) = (wr m ⟨512 * c.val + t.val, by omega⟩ : EReal))
    (ho : ∀ t n, wo (ix2 t n) = ww ⟨512 * c.val + t.val, by omega⟩ n)
    (hx : ∀ r m, x (ix2 r m) = (xr b ⟨r.val, by omega⟩ m : EReal))
    (hk : ∀ h j e, k h (ix4 0 0 j e) = (kr b j ⟨8 * c.val + h.val, by omega⟩ e : EReal))
    (hv : ∀ h j e, v h (ix4 0 0 j e) = vv b j ⟨8 * c.val + h.val, by omega⟩ e) (r : Fin 256) (n : Fin 768) :
    slab0 wo (queries wq x) mask k v (ix2 r n) = Attn.part xr wr kr vv ww b ⟨r.val, by omega⟩ n c := by
  unfold slab0 Attn.part
  rw [project_at]
  refine Finset.sum_congr rfl fun h _ => Finset.sum_congr rfl fun e _ => ?_
  have hm : ∀ j : Fin 256, extractStridedSlice S256x256 ![0, 0] (mask (F := Ideal)) slices_S512x512_o0_0_S256x256 (ix2 r j)
      = if Attn.sees ⟨r.val, by omega⟩ ⟨j.val, by omega⟩ then (1 : EReal) else 0 := by
    intro j; rw [← mask_at]
    generalize mask (F := Ideal) = M
    pointwise []
  rw [head0_at, ho]
  simp only [score_real xr wr kr wq x k b c hw _ r (hx r) h (hk h), hm, hv]
  have cut (f : Fin 512 → EReal) (hf : ∀ j : Fin 512, ¬ Attn.sees ⟨r.val, by omega⟩ j → f j = 0) :
      ∑ j : Fin 256, f ⟨j.val, by omega⟩ = ∑ j, f j := by
    rw [Attn.sum_blocks 2 256 rfl, Fin.sum_univ_two]
    rw [Finset.sum_eq_zero (s := Finset.univ) (f := fun j : Fin 256 => f ⟨256 * ((1 : Fin 2) : Nat) + j.val, _⟩) fun j _ => hf _ (by
      unfold Attn.sees; dsimp only; have := r.isLt; show ¬ ((256 * 1 + j.val) / 64 ≤ r.val / 64); omega), add_zero]
    refine Finset.sum_congr rfl fun j _ => congrArg f (Fin.ext ?_)
    show j.val = 256 * 0 + j.val
    omega
  set s := Attn.score xr wr kr b ⟨8 * c.val + h.val, by omega⟩ ⟨r.val, by omega⟩ with hs
  rw [cut (fun j => Ideal.exp (s j : EReal) * (if Attn.sees ⟨r.val, by omega⟩ j then (1 : EReal) else 0) * vv b j ⟨8 * c.val + h.val, by omega⟩ e)
      (fun j hj => by rw [if_neg hj, mul_zero, zero_mul]),
    cut (fun j => Ideal.exp (s j : EReal) * (if Attn.sees ⟨r.val, by omega⟩ j then (1 : EReal) else 0))
      (fun j hj => by rw [if_neg hj, mul_zero]),
    Attn.row_kernel _ _ _ (Attn.sees_self _)]
  refine congrArg (_ * ·) (congrArg (fun z => ww z n) (Fin.ext ?_))
  dsimp only [Attn.col]; omega

end Slab

/-! ## The loads -/

/-- The query weights, as loaded. -/
theorem wqL_at (I : In Ideal) (m : Fin 768) (t : Fin 512) : wqL I (ix2 m t) = I.wq (ix2 m t) := by
  pointwise [wqL, k0_pay2]

/-- The output weights, as loaded. -/
theorem woL_at (I : In Ideal) (t : Fin 512) (n : Fin 768) : woL I (ix2 t n) = I.wo (ix2 t n) := by
  pointwise [woL, k0_pay3]

/-- A load of 256 rows of the activations, from row `p` on. -/
theorem ld_rows (X : Vec Ideal S1024x768 .bf16) (o : Fin 2 → Nat) (h : ∀ a, o a + S256x768.size a ≤ S1024x768.size a) (p : Nat)
    (ho : o = ![p, 0]) (hp : p + 256 ≤ 1024) (r : Fin 256) (m : Fin 768) :
    ld X (Rect.unit (s := S1024x768) o S256x768.size h) (ix2 r m) = X (ix2 ⟨p + r.val, by omega⟩ m) := by
  subst ho
  pointwise []

/-- A load of batch `p`, head `q`, of the keys or values. -/
theorem ld_head (X : Vec Ideal S2x8x512x64 .bf16) (o : Fin 4 → Nat) (h : ∀ a, o a + S1x1x512x64.size a ≤ S2x8x512x64.size a)
    (p : Fin 2) (q : Fin 8) (ho : o = ![p.val, q.val, 0, 0]) (j : Fin 512) (e : Fin 64) :
    hd o h X (ix4 0 0 j e) = X (ix4 p q j e) := by
  subst ho
  pointwise [hd]

end Cert.KernelIdeal.P

end
-- ==== Proof.Exchange.lean ====
/-
  The exchange over the extended reals: the chunks a device sends and adds up are sums of the devices' contributions, and
  after the three stages each device holds all four devices' sum, in every row of both batches.
-/
module

public import proofs.«01_k».proof.Proof.Partial
public import Idealize.ShloMosaic.Lib.Pointwise.IndexBridge

@[expose] public section

set_option maxRecDepth 16384

noncomputable section

namespace Cert.KernelIdeal.P

open Cert.KernelIdeal Cert.KernelIdeal.Gen
open Idealize.ShloMosaic
open Idealize.ShloMosaic.View (ld)

/-- The batch a device hands to its first partner. -/
def first (d : Dev nD) : Fin 2 := if d.val = 0 ∨ d.val = 3 then 1 else 0
/-- The batch a device keeps until the third stage. -/
def second (d : Dev nD) : Fin 2 := if d.val = 0 ∨ d.val = 3 then 0 else 1

/-- The batch that the first partner hands over is the one kept here. -/
theorem first_p1 (d : Dev nD) : first (p1 d) = second d := by revert d; decide
/-- The batch that the first partner keeps is the one handed over here. -/
theorem second_p1 (d : Dev nD) : second (p1 d) = first d := by revert d; decide
/-- The second partner keeps the same batch. -/
theorem second_p2 (d : Dev nD) : second (p2 d) = second d := by revert d; decide

variable (X : Dev nD → In Ideal)
variable (xr : Fin 2 → Fin 512 → Fin 768 → ℝ) (wr : Fin 768 → Fin 2048 → ℝ) (kr : Fin 2 → Fin 512 → Fin 32 → Fin 64 → ℝ)
  (vv : Fin 2 → Fin 512 → Fin 32 → Fin 64 → EReal) (ww : Fin 2048 → Fin 768 → EReal)

/-- The devices' windows hold their parts of these arrays: all activations, a quarter of the heads. -/
structure Holds : Prop where
  x : ∀ (d : Dev nD) (b : Fin 2) (i : Fin 512) (m : Fin 768), (X d).x (ix2 ⟨512 * b.val + i.val, by omega⟩ m) = (xr b i m : EReal)
  q : ∀ (d : Dev nD) (m : Fin 768) (t : Fin 512), (X d).wq (ix2 m t) = (wr m ⟨512 * d.val + t.val, by have : d.val < 4 := d.isLt; omega⟩ : EReal)
  k : ∀ (d : Dev nD) (b : Fin 2) (h : Fin 8) (j : Fin 512) (e : Fin 64),
    (X d).k (ix4 b h j e) = (kr b j ⟨8 * d.val + h.val, by have : d.val < 4 := d.isLt; omega⟩ e : EReal)
  v : ∀ (d : Dev nD) (b : Fin 2) (h : Fin 8) (j : Fin 512) (e : Fin 64),
    (X d).v (ix4 b h j e) = vv b j ⟨8 * d.val + h.val, by have : d.val < 4 := d.isLt; omega⟩ e
  o : ∀ (d : Dev nD) (t : Fin 512) (n : Fin 768), (X d).wo (ix2 t n) = ww ⟨512 * d.val + t.val, by have : d.val < 4 := d.isLt; omega⟩ n

/-! ## The loaded heads -/

/-- The heads loaded first are those of the batch handed over. -/
theorem hdsA_at (d : Dev nD) (Y : Vec Ideal S2x8x512x64 .bf16) (h : Fin 8) (j : Fin 512) (e : Fin 64) :
    hdsA d Y h (ix4 0 0 j e) = Y (ix4 (first d) h j e) := by
  have g : (first d).val = if d.val = 0 ∨ d.val = 3 then 1 else 0 := by unfold first; split_ifs <;> rfl
  fin_cases h
  · exact ld_head Y _ _ (first d) 0 (by rw [k0_off2_eq, g]; rfl) j e
  · exact ld_head Y _ _ (first d) 1 (by rw [k0_off3_eq, g]; rfl) j e
  · exact ld_head Y _ _ (first d) 2 (by rw [k0_off4_eq, g]; rfl) j e
  · exact ld_head Y _ _ (first d) 3 (by rw [k0_off5_eq, g]; rfl) j e
  · exact ld_head Y _ _ (first d) 4 (by rw [k0_off6_eq, g]; rfl) j e
  · exact ld_head Y _ _ (first d) 5 (by rw [k0_off7_eq, g]; rfl) j e
  · exact ld_head Y _ _ (first d) 6 (by rw [k0_off8_eq, g]; rfl) j e
  · exact ld_head Y _ _ (first d) 7 (by rw [k0_off9_eq, g]; rfl) j e

/-- The heads loaded second are those of the batch kept. -/
theorem hdsB_at (d : Dev nD) (Y : Vec Ideal S2x8x512x64 .bf16) (h : Fin 8) (j : Fin 512) (e : Fin 64) :
    hdsB d Y h (ix4 0 0 j e) = Y (ix4 (second d) h j e) := by
  have g : (second d).val = 1 - if d.val = 0 ∨ d.val = 3 then 1 else 0 := by unfold second; split_ifs <;> rfl
  fin_cases h
  · exact ld_head Y _ _ (second d) 0 (by rw [k0_off11_eq, g]; rfl) j e
  · exact ld_head Y _ _ (second d) 1 (by rw [k0_off12_eq, g]; rfl) j e
  · exact ld_head Y _ _ (second d) 2 (by rw [k0_off13_eq, g]; rfl) j e
  · exact ld_head Y _ _ (second d) 3 (by rw [k0_off14_eq, g]; rfl) j e
  · exact ld_head Y _ _ (second d) 4 (by rw [k0_off15_eq, g]; rfl) j e
  · exact ld_head Y _ _ (second d) 5 (by rw [k0_off16_eq, g]; rfl) j e
  · exact ld_head Y _ _ (second d) 6 (by rw [k0_off17_eq, g]; rfl) j e
  · exact ld_head Y _ _ (second d) 7 (by rw [k0_off18_eq, g]; rfl) j e

/-! ## The four slabs -/

variable {X xr wr kr vv ww}
variable (H : Holds X xr wr kr vv ww)
include H

/-- A load of 256 rows of the activations. -/
theorem rows_at (d : Dev nD) (b : Fin 2) (p : Nat) (hp : p ≤ 256) (o : Fin 2 → Nat) (h : ∀ a, o a + S256x768.size a ≤ S1024x768.size a)
    (ho : o = ![512 * b.val + p, 0]) (r : Fin 256) (m : Fin 768) :
    ld (X d).x (Rect.unit (s := S1024x768) o S256x768.size h) (ix2 r m) = (xr b ⟨p + r.val, by omega⟩ m : EReal) := by
  rw [ld_rows _ o h _ ho (by omega), ← H.x d b]
  exact congrArg (fun z => (X d).x (ix2 z m)) (Fin.ext (by dsimp only; omega))

/-- The first slab sent: the device's part of the rows 0 to 255 of the batch handed over. -/
theorem w0_at (d : Dev nD) (r : Fin 256) (n : Fin 768) :
    w0 d (X d) (ix3 0 r n) = Attn.part xr wr kr vv ww (first d) ⟨r.val, by omega⟩ n d := by
  rw [w0_eq, ← slab0_at xr wr kr vv ww (woL (X d)) (wqL (X d)) (x0 d (X d)) (hdsA d (X d).k) (hdsA d (X d).v) (first d) d
    (fun m t => (wqL_at _ _ _).trans (H.q d m t)) (fun t n => (woL_at _ _ _).trans (H.o d t n))
    (fun r m => (rows_at H d (first d) 0 (by omega) _ _ (by
      rw [show (0#32) = BitVec.ofNat 32 (256 * (0 : Fin 2).val) from rfl, k0_off1_eq]; unfold first; split_ifs <;> rfl) r m).trans (by simp only [Nat.zero_add]))
    (fun h j e => (hdsA_at d _ h j e).trans (H.k d _ h j e)) (fun h j e => (hdsA_at d _ h j e).trans (H.v d _ h j e)) r n]
  generalize slab0 (F := Ideal) _ _ _ _ _ = S
  pointwise []

/-- The second slab sent: the device's part of the rows 256 to 511 of the batch handed over. -/
theorem w1_at (d : Dev nD) (r : Fin 256) (n : Fin 768) :
    w1 d (X d) (ix3 0 r n) = Attn.part xr wr kr vv ww (first d) ⟨256 + r.val, by omega⟩ n d := by
  rw [w1_eq, ← slab1_at xr wr kr vv ww (woL (X d)) (wqL (X d)) (x1 d (X d)) (hdsA d (X d).k) (hdsA d (X d).v) (first d) d
    (fun m t => (wqL_at _ _ _).trans (H.q d m t)) (fun t n => (woL_at _ _ _).trans (H.o d t n))
    (fun r m => rows_at H d (first d) 256 (by omega) _ _ (by
      rw [show (256#32) = BitVec.ofNat 32 (256 * (1 : Fin 2).val) from rfl, k0_off1_eq]; unfold first; split_ifs <;> rfl) r m)
    (fun h j e => (hdsA_at d _ h j e).trans (H.k d _ h j e)) (fun h j e => (hdsA_at d _ h j e).trans (H.v d _ h j e)) r n]
  generalize slab1 (F := Ideal) _ _ _ _ _ = S
  pointwise []

/-- The first slab kept: the device's part of the rows 0 to 255 of the batch kept. -/
theorem m0_at (d : Dev nD) (r : Fin 256) (n : Fin 768) :
    m0 d (X d) (ix2 r n) = Attn.part xr wr kr vv ww (second d) ⟨r.val, by omega⟩ n d := by
  rw [m0_eq]
  exact slab0_at xr wr kr vv ww (woL (X d)) (wqL (X d)) (x2 d (X d)) (hdsB d (X d).k) (hdsB d (X d).v) (second d) d
    (fun m t => (wqL_at _ _ _).trans (H.q d m t)) (fun t n => (woL_at _ _ _).trans (H.o d t n))
    (fun r m => (rows_at H d (second d) 0 (by omega) _ _ (by
      rw [show (0#32) = BitVec.ofNat 32 (256 * (0 : Fin 2).val) from rfl, k0_off10_eq]; unfold second; split_ifs <;> rfl) r m).trans (by simp only [Nat.zero_add]))
    (fun h j e => (hdsB_at d _ h j e).trans (H.k d _ h j e)) (fun h j e => (hdsB_at d _ h j e).trans (H.v d _ h j e)) r n

/-- The second slab kept: the device's part of the rows 256 to 511 of the batch kept. -/
theorem m1_at (d : Dev nD) (r : Fin 256) (n : Fin 768) :
    m1 d (X d) (ix2 r n) = Attn.part xr wr kr vv ww (second d) ⟨256 + r.val, by omega⟩ n d := by
  rw [m1_eq]
  exact slab1_at xr wr kr vv ww (woL (X d)) (wqL (X d)) (x3 d (X d)) (hdsB d (X d).k) (hdsB d (X d).v) (second d) d
    (fun m t => (wqL_at _ _ _).trans (H.q d m t)) (fun t n => (woL_at _ _ _).trans (H.o d t n))
    (fun r m => rows_at H d (second d) 256 (by omega) _ _ (by
      rw [show (256#32) = BitVec.ofNat 32 (256 * (1 : Fin 2).val) from rfl, k0_off10_eq]; unfold second; split_ifs <;> rfl) r m)
    (fun h j e => (hdsB_at d _ h j e).trans (H.k d _ h j e)) (fun h j e => (hdsB_at d _ h j e).trans (H.v d _ h j e)) r n

/-! ## The chunks -/

omit H in
/-- A row of 512 is a row of one of the four chunks. -/
theorem rows_of (w : FVec Ideal S1x256x768 .bf16) (q : Fin 2) (r : Fin 128) (n : Fin 768) :
    rows w q (ix3 0 r n) = w (ix3 0 ⟨128 * q.val + r.val, by omega⟩ n) := by
  pointwise [rows]

/-- What is sent first. -/
theorem c0_at (k : Fin 4) (d : Dev nD) (r : Fin 128) (n : Fin 768) :
    c0 X k d (ix3 0 r n) = Attn.part xr wr kr vv ww (first d) ⟨128 * k.val + r.val, by omega⟩ n d := by
  fin_cases k
  · exact (rows_of _ 0 r n).trans (w0_at H d _ n)
  · exact (rows_of _ 1 r n).trans (w0_at H d _ n)
  · refine ((rows_of _ 0 r n).trans (w1_at H d _ n)).trans (congrArg (fun z => Attn.part xr wr kr vv ww (first d) z n d) (Fin.ext ?_))
    show 256 + (128 * 0 + r.val) = 128 * 2 + r.val
    omega
  · refine ((rows_of _ 1 r n).trans (w1_at H d _ n)).trans (congrArg (fun z => Attn.part xr wr kr vv ww (first d) z n d) (Fin.ext ?_))
    show 256 + (128 * 1 + r.val) = 128 * 3 + r.val
    omega

/-- Its own batch's rows, the first partner's added. -/
theorem acc_at (k : Fin 4) (d : Dev nD) (r : Fin 128) (n : Fin 768) :
    acc X k d (ix2 r n) = Attn.part xr wr kr vv ww (second d) ⟨128 * k.val + r.val, by omega⟩ n d
      + Attn.part xr wr kr vv ww (second d) ⟨128 * k.val + r.val, by omega⟩ n (p1 d) := by
  have hc := c0_at H k (p1 d) r n
  rw [first_p1] at hc
  rw [← hc]
  fin_cases k
  · refine Eq.trans ?_ (congrArg (· + _) (m0_at H d ⟨128 * 0 + r.val, by omega⟩ n))
    unfold acc
    pointwise [k0_pay61]
  · refine Eq.trans ?_ (congrArg (· + _) (m0_at H d ⟨128 * 1 + r.val, by omega⟩ n))
    unfold acc
    pointwise [k0_pay63]
  · refine Eq.trans ?_ (congrArg (· + _) ((m1_at H d ⟨128 * 0 + r.val, by omega⟩ n).trans
      (congrArg (fun z => Attn.part xr wr kr vv ww (second d) z n d) (Fin.ext (by show 256 + (128 * 0 + r.val) = 128 * 2 + r.val; omega)))))
    unfold acc
    pointwise [k0_pay83]
  · refine Eq.trans ?_ (congrArg (· + _) ((m1_at H d ⟨128 * 1 + r.val, by omega⟩ n).trans
      (congrArg (fun z => Attn.part xr wr kr vv ww (second d) z n d) (Fin.ext (by show 256 + (128 * 1 + r.val) = 128 * 3 + r.val; omega)))))
    unfold acc
    pointwise [k0_pay85]

omit H in
/-- What is sent second is that. -/
theorem c1_eq (k : Fin 4) (d : Dev nD) (r : Fin 128) (n : Fin 768) : c1 X k d (ix3 0 r n) = acc X k d (ix2 r n) := by
  fin_cases k
  · show k0_pay62 (m0 d (X d)) (c0 X 0 (p1 d)) (ix3 0 r n) = k0_pay61 (m0 d (X d)) (c0 X 0 (p1 d)) (ix2 r n)
    generalize c0 X _ _ = Y
    generalize m0 d (X d) = M
    pointwise [k0_pay61, k0_pay62]
  · show k0_pay65 (k0_pay64 (F := Ideal) (m0 d (X d)) (c0 X 1 (p1 d))) (ix3 0 r n) = k0_pay63 (m0 d (X d)) (c0 X 1 (p1 d)) (ix2 r n)
    generalize c0 X _ _ = Y
    generalize m0 d (X d) = M
    pointwise [k0_pay63, k0_pay64, k0_pay65]
  · show k0_pay84 (m1 d (X d)) (c0 X 2 (p1 d)) (ix3 0 r n) = k0_pay83 (m1 d (X d)) (c0 X 2 (p1 d)) (ix2 r n)
    generalize c0 X _ _ = Y
    generalize m1 d (X d) = M
    pointwise [k0_pay83, k0_pay84]
  · show k0_pay86 (m1 d (X d)) (c0 X 3 (p1 d)) (ix3 0 r n) = k0_pay85 (m1 d (X d)) (c0 X 3 (p1 d)) (ix2 r n)
    generalize c0 X _ _ = Y
    generalize m1 d (X d) = M
    pointwise [k0_pay85, k0_pay86]

omit H in
/-- The second stage adds what the second partner sent. -/
theorem red_eq (k : Fin 4) (d : Dev nD) (r : Fin 128) (n : Fin 768) :
    red X k d (ix2 r n) = acc X k d (ix2 r n) + c1 X k (p2 d) (ix3 0 r n) := by
  fin_cases k
  · show k0_pay87 (acc X 0 d) (c1 X 0 (p2 d)) (ix2 r n) = acc X 0 d (ix2 r n) + c1 X 0 (p2 d) (ix3 0 r n)
    generalize acc X _ _ = M
    generalize c1 X _ _ = Y
    pointwise [k0_pay87]
  · show k0_pay89 (acc X 1 d) (c1 X 1 (p2 d)) (ix2 r n) = acc X 1 d (ix2 r n) + c1 X 1 (p2 d) (ix3 0 r n)
    generalize acc X _ _ = M
    generalize c1 X _ _ = Y
    pointwise [k0_pay89]
  · show k0_pay91 (acc X 2 d) (c1 X 2 (p2 d)) (ix2 r n) = acc X 2 d (ix2 r n) + c1 X 2 (p2 d) (ix3 0 r n)
    generalize acc X _ _ = M
    generalize c1 X _ _ = Y
    pointwise [k0_pay91]
  · show k0_pay93 (acc X 3 d) (c1 X 3 (p2 d)) (ix2 r n) = acc X 3 d (ix2 r n) + c1 X 3 (p2 d) (ix3 0 r n)
    generalize acc X _ _ = M
    generalize c1 X _ _ = Y
    pointwise [k0_pay93]

omit H in
/-- A device, its two partners, and its second partner's first are all four. -/
theorem all_four (f : Fin 4 → EReal) (d : Dev nD) : f d + f (p1 d) + (f (p2 d) + f (p1 (p2 d))) = f 0 + f 1 + f 2 + f 3 := by
  fin_cases d
  · show f 0 + f 1 + (f 3 + f 2) = _
    rw [add_comm (f 3), add_assoc, add_assoc, add_assoc]
  · show f 1 + f 0 + (f 2 + f 3) = _
    rw [add_comm (f 1), add_assoc (f 0 + f 1)]
  · show f 2 + f 3 + (f 1 + f 0) = _
    rw [add_comm (f 1), add_comm, add_assoc (f 0 + f 1)]
  · show f 3 + f 2 + (f 0 + f 1) = _
    rw [add_comm (f 3), add_comm, add_assoc (f 0 + f 1)]

/-- The rows summed over the four devices. -/
theorem red_at (k : Fin 4) (d : Dev nD) (r : Fin 128) (n : Fin 768) :
    red X k d (ix2 r n) = Attn.out xr wr kr vv ww (second d) ⟨128 * k.val + r.val, by omega⟩ n := by
  rw [red_eq, c1_eq, acc_at H, acc_at H, second_p2]
  exact all_four (fun c => Attn.part xr wr kr vv ww (second d) ⟨128 * k.val + r.val, by omega⟩ n c) d

omit H in
/-- What a device stores of the batch kept is the sum. -/
theorem ownRows_eq (k : Fin 4) (d : Dev nD) (r : Fin 128) (n : Fin 768) : ownRows X k d (ix2 r n) = red X k d (ix2 r n) := by
  fin_cases k
  · show k0_pay96 (red X 0 d) (ix2 r n) = red X 0 d (ix2 r n)
    generalize red X _ _ = M
    pointwise [k0_pay96]
  · show k0_pay97 (red X 1 d) (ix2 r n) = red X 1 d (ix2 r n)
    generalize red X _ _ = M
    pointwise [k0_pay97]
  · show k0_pay98 (red X 2 d) (ix2 r n) = red X 2 d (ix2 r n)
    generalize red X _ _ = M
    pointwise [k0_pay98]
  · show k0_pay99 (red X 3 d) (ix2 r n) = red X 3 d (ix2 r n)
    generalize red X _ _ = M
    pointwise [k0_pay99]

omit H in
/-- What is sent third is the sum. -/
theorem c2_eq (k : Fin 4) (d : Dev nD) (r : Fin 128) (n : Fin 768) : c2 X k d (ix3 0 r n) = red X k d (ix2 r n) := by
  rw [red_eq]
  fin_cases k
  · show k0_pay88 (acc X 0 d) (c1 X 0 (p2 d)) (ix3 0 r n) = acc X 0 d (ix2 r n) + c1 X 0 (p2 d) (ix3 0 r n)
    generalize acc X _ _ = M
    generalize c1 X _ _ = Y
    pointwise [k0_pay87, k0_pay88]
  · show k0_pay90 (acc X 1 d) (c1 X 1 (p2 d)) (ix3 0 r n) = acc X 1 d (ix2 r n) + c1 X 1 (p2 d) (ix3 0 r n)
    generalize acc X _ _ = M
    generalize c1 X _ _ = Y
    pointwise [k0_pay89, k0_pay90]
  · show k0_pay92 (acc X 2 d) (c1 X 2 (p2 d)) (ix3 0 r n) = acc X 2 d (ix2 r n) + c1 X 2 (p2 d) (ix3 0 r n)
    generalize acc X _ _ = M
    generalize c1 X _ _ = Y
    pointwise [k0_pay91, k0_pay92]
  · show k0_pay95 (k0_pay94 (acc X 3 d) (c1 X 3 (p2 d))) (ix3 0 r n) = acc X 3 d (ix2 r n) + c1 X 3 (p2 d) (ix3 0 r n)
    generalize acc X _ _ = M
    generalize c1 X _ _ = Y
    pointwise [k0_pay93, k0_pay94, k0_pay95]

/-! ## The result -/

/-- What lands third is the summed batch that the first partner kept. -/
theorem landedRows_at (d : Dev nD) (i : Fin 512) (n : Fin 768) :
    landedRows X d (ix3 0 i n) = Attn.out xr wr kr vv ww (first d) i n := by
  have e : landedRows X d (ix3 0 i n) = c2 X ⟨i.val / 128, by omega⟩ (p1 d) (ix3 0 ⟨i.val % 128, by omega⟩ n) := by
    simp only [ix3_eq_valueIdx]
    rfl
  rw [e, c2_eq, red_at H, second_p1]
  exact congrArg (fun z => Attn.out xr wr kr vv ww (first d) z n) (Fin.ext (by dsimp only; omega))

omit H in
/-- The batch that landed third is stored as it is. -/
theorem pay1_at (Y : FVec Ideal S1x512x768 .bf16) (i : Fin 512) (n : Fin 768) : k0_pay1 Y (ix2 i n) = Y (ix3 0 i n) := by
  pointwise [k0_pay1]

/-- Every row of the result, on every device. -/
theorem outAt_at (d : Dev nD) (b : Fin 2) (i : Fin 512) (n : Fin 768) :
    outAt X d (ix2 ⟨512 * b.val + i.val, by omega⟩ n) = Attn.out xr wr kr vv ww b i n := by
  have e : outAt X d (ix2 ⟨512 * b.val + i.val, by omega⟩ n)
      = if (512 * b.val + i.val) / 512 = fb d then k0_pay1 (landedRows X d) (ix2 ⟨(512 * b.val + i.val) % 512, by omega⟩ n)
        else ownRows X ⟨(512 * b.val + i.val) % 512 / 128, by omega⟩ d (ix2 ⟨(512 * b.val + i.val) % 128, by omega⟩ n) := by
    simp only [ix2_eq_valueIdx]
    rfl
  rw [e, show (512 * b.val + i.val) / 512 = b.val by omega]
  split_ifs with h
  · rw [pay1_at, landedRows_at H]
    have hb : first d = b := Fin.ext (by rw [h]; unfold first fb; split_ifs <;> rfl)
    rw [hb]
    exact congrArg (fun z => Attn.out xr wr kr vv ww b z n) (Fin.ext (by dsimp only; omega))
  · rw [ownRows_eq, red_at H]
    have hb : second d = b := Fin.ext (by
      have := b.isLt
      unfold fb at h
      unfold second
      split_ifs at h ⊢
      · show 0 = b.val; omega
      · show 1 = b.val; omega)
    rw [hb]
    exact congrArg (fun z => Attn.out xr wr kr vv ww b z n) (Fin.ext (by dsimp only; omega))

end Cert.KernelIdeal.P

end
-- ==== Proof.Inputs.lean ====
/-
  What the kernel's windows hold when it is called, and what is returned: the few operations around the call.
-/
module

public import proofs.«01_k».proof.Proof.Run
public import proofs.«01_k».proof.Proof.Exchange
public import proofs.«01_k».proof.Defs
public import Idealize.ShloMosaic.Lib.DynamicIndex
public import Idealize.ShloMosaic.Lib.ReduceAll
public import Idealize.ShloMosaic.Lib.Layout

@[expose] public section

set_option maxRecDepth 16384

noncomputable section

namespace Cert.KernelIdeal.P

open Cert.KernelIdeal Cert.KernelIdeal.Gen
open Idealize.ShloMosaic Idealize.ShloMosaic.TcCoe Idealize.ShloMosaic.StableHlo

variable (m : (ℓ : Loc nD τ sig) → Buf (Elt Ideal) ℓ)

/-- A device's first head, as the operations before the call compute it: eight times its number. -/
def eightTimes (d : Dev nD) : IVec S_ 32 :=
  muli (id (Host.remui (Host.divui (constantI S_ 32 (Dev.word d)) (constantI S_ 32 1#32)) (constantI S_ 32 4#32))) (constantI S_ 32 8#32)

/-- The first head cut out on device `d` is the head of number `8 d`. -/
theorem first_head : ∀ d : Dev nD, BitVec.toInt (select (cmpi .slt (eightTimes d) (constantI S_ 32 0#32))
    (addi (eightTimes d) (constantI S_ 32 32#32)) (eightTimes d) (Shape.Idx.first h_S_)) = ((8 * d.val : Nat) : Int) := by decide

/-- The call's activations: the argument, its batches one under the other. -/
theorem x_eq (d : Dev nD) : V1 m d main_v17
    = (shapeCast S1024x768 (m ((d.tc : Thread nD τ).loc main_arg0) : FVec Ideal S2x512x768 .bf16) shapeCasts_S2x512x768_S1024x768 : FVec Ideal S1024x768 .bf16) := by
  show StableHlo.after (hostOps0 d) (V0 m d) main_v17 = _
  after_results_simp
  rfl

/-- The call's keys: the device's eight heads of the argument, heads before positions. -/
theorem k_eq (d : Dev nD) : V1 m d main_v15 =
    (transpose S2x8x512x64 [0, 2, 1, 3] (extractStridedSlice S2x512x8x64 ![0, 0, 8 * d.val, 0]
      (m ((d.tc : Thread nD τ).loc main_arg2) : FVec Ideal S2x512x32x64 .bf16) (by revert d; decide)) transposes_S2x512x8x64_S2x8x512x64_0_2_1_3 : FVec Ideal S2x8x512x64 .bf16) := by
  show StableHlo.after (hostOps0 d) (V0 m d) main_v15 = _
  after_results_simp
  refine congrArg (fun z => transpose S2x8x512x64 [0, 2, 1, 3] z transposes_S2x512x8x64_S2x8x512x64_0_2_1_3)
    (Host.dynamicSlice_eq_extractStridedSlice _ _ _ _ _ _ fun a => ?_)
  fin_cases a
  · after_results_simp
    rfl
  · after_results_simp
    rfl
  · exact first_head d
  · after_results_simp
    rfl

/-- The call's values: the device's eight heads of the argument, heads before positions. -/
theorem v_eq (d : Dev nD) : V1 m d main_v16 =
    (transpose S2x8x512x64 [0, 2, 1, 3] (extractStridedSlice S2x512x8x64 ![0, 0, 8 * d.val, 0]
      (m ((d.tc : Thread nD τ).loc main_arg3) : FVec Ideal S2x512x32x64 .bf16) (by revert d; decide)) transposes_S2x512x8x64_S2x8x512x64_0_2_1_3 : FVec Ideal S2x8x512x64 .bf16) := by
  show StableHlo.after (hostOps0 d) (V0 m d) main_v16 = _
  after_results_simp
  refine congrArg (fun z => transpose S2x8x512x64 [0, 2, 1, 3] z transposes_S2x512x8x64_S2x8x512x64_0_2_1_3)
    (Host.dynamicSlice_eq_extractStridedSlice _ _ _ _ _ _ fun a => ?_)
  fin_cases a
  · after_results_simp
    rfl
  · after_results_simp
    rfl
  · exact first_head d
  · after_results_simp
    rfl

/-- The result is the call's, as two batches. -/
theorem out_eq (d : Dev nD) : V3 m (outsOf m) d main_v19
    = (shapeCast S2x512x768 (outAt (Xd (V1 m)) d) shapeCasts_S1024x768_S2x512x768 : FVec Ideal S2x512x768 .bf16) := by
  show StableHlo.after hostOps1 (V2 m (outsOf m) d) main_v19 = _
  after_results_simp
  rw [V2_eq, W2_out]
  rfl

/-! ## At an index -/

/-- The heads of a device, out of all of them. -/
theorem heads_at (Y : FVec Ideal S2x512x32x64 .bf16) (d : Dev nD) (hs : S2x512x32x64.Slices ![0, 0, 8 * d.val, 0] S2x512x8x64)
    (b : Fin 2) (h : Fin 8) (j : Fin 512) (e : Fin 64) :
    (transpose S2x8x512x64 [0, 2, 1, 3] (extractStridedSlice S2x512x8x64 ![0, 0, 8 * d.val, 0] Y hs)
      transposes_S2x512x8x64_S2x8x512x64_0_2_1_3 : FVec Ideal S2x8x512x64 .bf16) (ix4 b h j e)
      = Y (ix4 b j ⟨8 * d.val + h.val, by have : d.val < 4 := d.isLt; omega⟩ e) := by
  pointwise []

/-- The batches one under the other, at an index. -/
theorem flat_at (Y : FVec Ideal S2x512x768 .bf16) (b : Fin 2) (i : Fin 512) (n : Fin 768) :
    (shapeCast S1024x768 Y shapeCasts_S2x512x768_S1024x768 : FVec Ideal S1024x768 .bf16) (ix2 ⟨512 * b.val + i.val, by omega⟩ n)
      = Y (ix3 b i n) := by
  pointwise []

/-- The rows cut into two batches, at an index. -/
theorem batches_at (Y : FVec Ideal S1024x768 .bf16) (b : Fin 2) (i : Fin 512) (n : Fin 768) :
    (shapeCast S2x512x768 Y shapeCasts_S1024x768_S2x512x768 : FVec Ideal S2x512x768 .bf16) (ix3 b i n)
      = Y (ix2 ⟨512 * b.val + i.val, by omega⟩ n) := by
  pointwise []
  exact congrArg (fun z => Y (ix2 z n)) (Fin.ext (by dsimp only; omega))

/-- A device's columns of the query weights. -/
theorem cols_at (Y : FVec Ideal ⟨2, ![768, 2048]⟩ .bf16) (d : Fin 4) (a : Fin 768) (t : Fin 512) :
    Layout.block ⟨2, ![768, 512]⟩ ⟨2, ![768, 2048]⟩ 1 4 d Y (by decide) (ix2 a t) = Y (ix2 a ⟨512 * d.val + t.val, by omega⟩) := by
  rw [Layout.block_apply]
  refine congrArg Y (funext fun z => Fin.ext ?_)
  fin_cases z
  · rfl
  · show d.val * 512 + t.val = 512 * d.val + t.val
    omega

/-- A device's rows of the output weights. -/
theorem orows_at (Y : FVec Ideal ⟨2, ![2048, 768]⟩ .bf16) (d : Fin 4) (t : Fin 512) (n : Fin 768) :
    Layout.block ⟨2, ![512, 768]⟩ ⟨2, ![2048, 768]⟩ 0 4 d Y (by decide) (ix2 t n) = Y (ix2 ⟨512 * d.val + t.val, by omega⟩ n) := by
  rw [Layout.block_apply]
  refine congrArg Y (funext fun z => Fin.ext ?_)
  fin_cases z
  · show d.val * 512 + t.val = 512 * d.val + t.val
    omega
  · rfl

/-! ## What the precondition says -/

/-- A number whose absolute value is below infinity is real. -/
theorem real_of (a : EReal) (h : Ideal.cmp .olt (max a (-a)) (Ideal.ofBits .bf16 0x7F80#16) = 1#1) : ∃ r : ℝ, a = (r : EReal) := by
  have ht : Ideal.ofBits .bf16 0x7F80#16 = (⊤ : EReal) := by simp [Ideal.ofBits, Ideal.ieee]
  rw [ht] at h
  have hlt : max a (-a) < ⊤ := by
    by_contra hn
    have : Ideal.cmp .olt (max a (-a)) ⊤ = 0#1 := by simp [Ideal.cmp, hn]
    rw [this] at h
    exact absurd h (by decide)
  have h1 : a ≠ ⊤ := fun e => by simp [e] at hlt
  have h2 : a ≠ ⊥ := fun e => by simp [e] at hlt
  exact ⟨a.toReal, (EReal.coe_toReal h1 h2).symm⟩

instance : Subsingleton Cert.Pre_finite_qk_KernelIdeal.S_.Idx := ⟨fun a b => funext fun i => i.elim0⟩

/-- The activations, a device's query weights and the keys are real numbers. -/
theorem finite_of [Cert.Pre_finite_qk_KernelIdeal.Facts] (x : FVec Ideal S2x512x768 .bf16) (wq : FVec Ideal S768x512 .bf16)
    (k v : FVec Ideal S2x512x32x64 .bf16) (wo : FVec Ideal S512x768 .bf16)
    (h : Cert.Pre_finite_qk_KernelIdeal.fn (F := Ideal) x wq k v wo = fun _ => 1#1) :
    (∀ i, ∃ r : ℝ, x i = (r : EReal)) ∧ (∀ i, ∃ r : ℝ, wq i = (r : EReal)) ∧ ∀ i, ∃ r : ℝ, k i = (r : EReal) := by
  have h0 := congrFun h ix0
  obtain ⟨h12, h3⟩ := IntOp.andi_eq_one.1 h0
  obtain ⟨h1, h2⟩ := IntOp.andi_eq_one.1 h12
  exact ⟨fun i => real_of _ (Host.reduce_andi_all _ _ _ _ _ h1 i), fun i => real_of _ (Host.reduce_andi_all _ _ _ _ _ h2 i),
    fun i => real_of _ (Host.reduce_andi_all _ _ _ _ _ h3 i)⟩

end Cert.KernelIdeal.P

end
-- ==== Proof.Reference.lean ====
/-
  What the reference returns, read at an index over the extended reals: its mask, its scores, its weights, its result.
-/
module

public import proofs.«01_k».proof.Proof.Gen.ReferenceIdeal.Run
public import proofs.«01_k».proof.Proof.Attn
public import Idealize.ShloMosaic.Lib.Pointwise
public import Idealize.ShloMosaic.Lib.Routing.OpsOrder

@[expose] public section

set_option maxRecDepth 16384

noncomputable section

namespace Cert.ReferenceIdeal.R

open Cert.ReferenceIdeal Cert.ReferenceIdeal.Gen
open Idealize.ShloMosaic Idealize.ShloMosaic.TcCoe

/-! ## The result in named pieces -/

section Pieces

variable {F : FTy → Type} [FloatOps F]

/-- Each position's block of 64. -/
def block : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32))))
        (broadcastInDim S512 ![] bcast_S_S512 (constantI S_ 32 0#32))))
    (subi (Host.divsi (iotaInDim S512 32 0) (broadcastInDim S512 ![] bcast_S_S512 (id (constantI S_ 32 64#32))))
      (broadcastInDim S512 ![] bcast_S_S512 (constantI S_ 32 1#32)))
    (Host.divsi (iotaInDim S512 32 0) (broadcastInDim S512 ![] bcast_S_S512 (id (constantI S_ 32 64#32))))

/-- The mask. -/
def seen : IVec S512x512 1 :=
  cmpi .sle (broadcastInDim S512x512 ![0, 1] bcast_S1x512_S512x512_0_1 (broadcastInDim S1x512 ![1] bcast_S512_S1x512_1 block))
    (broadcastInDim S512x512 ![0, 1] bcast_S512x1_S512x512_0_1 (broadcastInDim S512x1 ![0] bcast_S512_S512x1_0 block))

/-- The rows with a key to see. -/
def kept : IVec S512 1 := Host.reduce IntOp.ori seen (constantI S_ 1 0#1) reducesTo_S512x512_S512_d1 h_S_

/-- The scores. -/
def scores (x : FVec F S2x512x768 .bf16) (wq : FVec F S768x2048 .bf16) (k : FVec F S2x512x32x64 .bf16) : FVec F S2x32x512x512 .f32 :=
  mulf (extf .f32 (truncf .bf16 (Host.dotGeneral dot_S2x512x32x64_S2x512x32x64_S2x32x512x512_3_3_1_1_02_02 none
      (shapeCast S2x512x32x64 (truncf .bf16 (Host.dotGeneral dot_S2x512x768_S768x2048_S2x512x2048_2_0_01_1_n_n none x wq) bitsLt_bf16_f32)
        shapeCasts_S2x512x2048_S2x512x32x64) k) bitsLt_bf16_f32) bitsLt_bf16_f32)
    (broadcastInDim S2x32x512x512 ![] bcast_S_S2x32x512x512 (constant S_ .f32 0x3E000000#32))

/-- The scores, minus infinity where the mask is off. -/
def masked (s : FVec F S2x32x512x512 .f32) : FVec F S2x32x512x512 .f32 :=
  select (broadcastInDim S2x32x512x512 ![0, 1, 2, 3] bcast_S1x1x512x512_S2x32x512x512_0_1_2_3
      (broadcastInDim S1x1x512x512 ![2, 3] bcast_S512x512_S1x1x512x512_2_3 seen)) s
    (broadcastInDim S2x32x512x512 ![] bcast_S_S2x32x512x512 (id (constant S_ .f32 0xFF800000#32)))

/-- Each row's maximum. -/
def top (s : FVec F S2x32x512x512 .f32) : FVec F S2x32x512 .f32 :=
  Host.reduce FloatOps.maximumf s (constant S_ .f32 0xFF800000#32) reducesTo_S2x32x512x512_S2x32x512_d3 h_S_

/-- The exponentials, a row's number taken out. -/
def expd (s : FVec F S2x32x512x512 .f32) (t : FVec F S2x32x512 .f32) : FVec F S2x32x512x512 .f32 :=
  Host.exp (subf s (broadcastInDim S2x32x512x512 ![0, 1, 2, 3] bcast_S2x32x512x1_S2x32x512x512_0_1_2_3
    (broadcastInDim S2x32x512x1 ![0, 1, 2] bcast_S2x32x512_S2x32x512x1_0_1_2 t)))

/-- The weights. -/
def weights (w : FVec F S2x32x512x512 .f32) : FVec F S2x32x512x512 .f32 :=
  select (broadcastInDim S2x32x512x512 ![0, 1, 2, 3] bcast_S1x1x512x1_S2x32x512x512_0_1_2_3
      (broadcastInDim S1x1x512x1 ![2] bcast_S512_S1x1x512x1_2 kept))
    (Host.divf w (broadcastInDim S2x32x512x512 ![0, 1, 2, 3] bcast_S2x32x512x1_S2x32x512x512_0_1_2_3
      (select (broadcastInDim S2x32x512x1 ![0, 1, 2, 3] bcast_S1x1x512x1_S2x32x512x1_0_1_2_3
          (broadcastInDim S1x1x512x1 ![2] bcast_S512_S1x1x512x1_2 kept))
        (broadcastInDim S2x32x512x1 ![0, 1, 2] bcast_S2x32x512_S2x32x512x1_0_1_2
          (Host.reduceAdd w (constant S_ .f32 0x00000000#32) reducesTo_S2x32x512x512_S2x32x512_d3 h_S_))
        (broadcastInDim S2x32x512x1 ![] bcast_S_S2x32x512x1 (id (constant S_ .f32 0x3F800000#32))))))
    (broadcastInDim S2x32x512x512 ![] bcast_S_S2x32x512x512 (id (constant S_ .f32 0x00000000#32)))

/-- The weighted values, projected. -/
def projected (p : FVec F S2x32x512x512 .f32) (v : FVec F S2x512x32x64 .bf16) (wo : FVec F S2048x768 .bf16) : FVec F S2x512x768 .bf16 :=
  truncf .bf16 (Host.dotGeneral dot_S2x512x2048_S2048x768_S2x512x768_2_0_01_1_n_n none
    (shapeCast S2x512x2048 (transpose S2x512x32x64 [0, 3, 1, 2]
      (Host.dotGeneral dot_S2x512x32x64_S2x32x512x512_S2x32x64x512_1_3_3_2_02_01 none v p : FVec F S2x32x64x512 .f32)
      transposes_S2x32x64x512_S2x512x32x64_0_3_1_2) shapeCasts_S2x512x32x64_S2x512x2048) wo) bitsLt_bf16_f32

/-- The whole. -/
def result (x : FVec F S2x512x768 .bf16) (wq : FVec F S768x2048 .bf16) (k v : FVec F S2x512x32x64 .bf16) (wo : FVec F S2048x768 .bf16) :
    FVec F S2x512x768 .bf16 :=
  projected (weights (expd (masked (scores x wq k)) (top (masked (scores x wq k))))) v wo

/-- The program's result is that of the pieces, put together. -/
theorem result_eq (m : (ℓ : Loc nD τ sig) → Buf (Elt F) ℓ) (c : Dev nD) :
    Value.res_main_v37 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Pieces

/-! ## The pieces at an index -/

/-- The word of a position's block of 64, as the division rounding down computes it. -/
theorem block_word : ∀ n : Fin 512,
    Scalar.select
      (IntOp.andi
        (IntOp.cmpi CmpIPredicate.ne
          (if BitVec.ofNat 32 n.val = 0 then 0 else if (BitVec.ofNat 32 n.val).msb = true then -1 else 1 : BitVec 32)
          (if (64#32) = 0 then 0 else if (64#32).msb = true then -1 else 1 : BitVec 32))
        (IntOp.cmpi CmpIPredicate.ne (IntOp.remsi ArithUnit.host (BitVec.ofNat 32 n.val) 64#32) 0#32))
      (IntOp.subi (IntOp.divsi ArithUnit.host (BitVec.ofNat 32 n.val) 64#32) 1#32)
      (IntOp.divsi ArithUnit.host (BitVec.ofNat 32 n.val) 64#32) = BitVec.ofNat 32 (n.val / 64) := by decide +kernel

/-- Blocks compare as their numbers do. -/
theorem block_le : ∀ a b : Fin 8,
    IntOp.cmpi CmpIPredicate.sle (BitVec.ofNat 32 a.val) (BitVec.ofNat 32 b.val) = if a.val ≤ b.val then 1#1 else 0#1 := by decide +kernel

/-- A position's block is its number divided by 64. -/
theorem block_at (n : Fin 512) : block (ix1 n) = BitVec.ofNat 32 (n.val / 64) := by
  pointwise [block]
  exact block_word n

/-- The mask compares the key's block with the query's. -/
theorem seen_at (i j : Fin 512) : seen (ix2 i j) = IntOp.cmpi .sle (block (ix1 j)) (block (ix1 i)) := by
  pointwise [seen]

/-- The mask is on where the position sees the key. -/
theorem seen_iff (i j : Fin 512) : seen (ix2 i j) = 1#1 ↔ Attn.sees i j := by
  rw [seen_at, block_at, block_at, block_le ⟨j.val / 64, by omega⟩ ⟨i.val / 64, by omega⟩]
  dsimp only
  split_ifs with h
  · exact ⟨fun _ => h, fun _ => rfl⟩
  · exact ⟨fun e => absurd e (by decide), fun e => absurd e h⟩

/-- Every row has a key to see. -/
theorem kept_at (i : Fin 512) : kept (ix1 i) = 1#1 := by
  pointwise [kept]
  exact (Idealize.ShloMosaic.Routing.fold_ori _ _).2 ⟨i, Finset.mem_univ _, (seen_iff i i).2 le_rfl⟩

/-- A score: the query times the key, times the word of one eighth. -/
theorem scores_at (x : FVec Ideal S2x512x768 .bf16) (wq : FVec Ideal S768x2048 .bf16) (k : FVec Ideal S2x512x32x64 .bf16)
    (b : Fin 2) (h : Fin 32) (i j : Fin 512) :
    scores x wq k (ix4 b h i j) = (∑ d : Fin 64, (∑ m : Fin 768, x (ix3 b i m) * wq (ix2 m (Attn.col h d))) * k (ix4 b j h d))
      * Ideal.ofBits .f32 0x3E000000#32 := by
  pointwise [scores]
  refine congrArg (· * _) (Finset.sum_congr rfl fun d _ => congrArg (· * _) (Finset.sum_congr rfl fun m _ => ?_))
  rw [show (⟨h.val * 64 + d.val, by omega⟩ : Fin 2048) = Attn.col h d from Fin.ext (by dsimp only [Attn.col]; omega)]

/-- A masked score: the score where the key is seen, minus infinity elsewhere. -/
theorem masked_at (s : FVec Ideal S2x32x512x512 .f32) (b : Fin 2) (h : Fin 32) (i j : Fin 512) :
    masked s (ix4 b h i j) = if Attn.sees i j then s (ix4 b h i j) else ⊥ := by
  pointwise [masked]
  show (if seen (ix2 i j) = 1#1 then _ else Ideal.ofBits .f32 0xFF800000#32) = _
  rw [Attn.bottom, if_congr (seen_iff i j) rfl rfl]

/-- The maximum over a row. -/
theorem top_at (s : FVec Ideal S2x32x512x512 .f32) (b : Fin 2) (h : Fin 32) (i : Fin 512) :
    top s (ix3 b h i) = Finset.univ.fold max ⊥ (fun j : Fin 512 => s (ix4 b h i j)) := by
  pointwise [top]
  rw [Attn.bottom]

/-- An entry's exponential, with the row's number taken out. -/
theorem expd_at (s : FVec Ideal S2x32x512x512 .f32) (t : FVec Ideal S2x32x512 .f32) (b : Fin 2) (h : Fin 32) (i j : Fin 512) :
    expd s t (ix4 b h i j) = Ideal.exp (s (ix4 b h i j) - t (ix3 b h i)) := by
  pointwise [expd]

/-- A weight: the entry over its row's sum. -/
theorem weights_at (w : FVec Ideal S2x32x512x512 .f32) (b : Fin 2) (h : Fin 32) (i j : Fin 512) :
    weights w (ix4 b h i j) = Ideal.div (w (ix4 b h i j)) (∑ j : Fin 512, w (ix4 b h i j)) := by
  pointwise [weights]
  rw [kept_at]
  rfl

/-- The result from the weights: the weighted values of every head and column, times the output weights. -/
theorem projected_at (p : FVec Ideal S2x32x512x512 .f32) (v : FVec Ideal S2x512x32x64 .bf16) (wo : FVec Ideal S2048x768 .bf16)
    (b : Fin 2) (i : Fin 512) (n : Fin 768) :
    projected p v wo (ix3 b i n)
      = ∑ t : Fin 2048, (∑ j : Fin 512, v (ix4 b j ⟨t.val / 64, by omega⟩ ⟨t.val % 64, by omega⟩) * p (ix4 b ⟨t.val / 64, by omega⟩ i j))
        * wo (ix2 t n) := by
  pointwise [projected]

/-- The result at an index, of arrays whose activations, query weights and keys are real numbers. -/
theorem result_at (x : FVec Ideal S2x512x768 .bf16) (wq : FVec Ideal S768x2048 .bf16) (k v : FVec Ideal S2x512x32x64 .bf16)
    (wo : FVec Ideal S2048x768 .bf16) (xr : Fin 2 → Fin 512 → Fin 768 → ℝ) (wr : Fin 768 → Fin 2048 → ℝ)
    (kr : Fin 2 → Fin 512 → Fin 32 → Fin 64 → ℝ) (hx : ∀ b i m, x (ix3 b i m) = (xr b i m : EReal))
    (hw : ∀ m t, wq (ix2 m t) = (wr m t : EReal)) (hk : ∀ b j h d, k (ix4 b j h d) = (kr b j h d : EReal))
    (b : Fin 2) (i : Fin 512) (n : Fin 768) :
    result x wq k v wo (ix3 b i n)
      = Attn.out xr wr kr (fun b j h d => v (ix4 b j h d)) (fun t n => wo (ix2 t n)) b i n := by
  unfold result
  rw [projected_at, ← Attn.out_eq]
  refine Finset.sum_congr rfl fun t _ => congrArg (· * _) ?_
  have hs (h : Fin 32) (j : Fin 512) : scores x wq k (ix4 b h i j) = (Attn.score xr wr kr b h i j : EReal) := by
    rw [scores_at, Attn.eighth]
    simp only [hx, hw, hk, ← EReal.coe_mul, Attn.coe_sum]
    rfl
  generalize (⟨t.val / 64, _⟩ : Fin 32) = h
  generalize (⟨t.val % 64, _⟩ : Fin 64) = d
  obtain ⟨M, hM⟩ := Attn.max_real (Attn.score xr wr kr b h i) (Attn.sees i) (Attn.sees_self i)
  have hm : ∀ j, masked (scores x wq k) (ix4 b h i j) = if Attn.sees i j then (Attn.score xr wr kr b h i j : EReal) else ⊥ := by
    intro j; rw [masked_at, hs]
  have ht : top (masked (scores x wq k)) (ix3 b h i) = (M : EReal) := by
    rw [top_at]; simp only [hm]; exact hM
  simp only [weights_at, expd_at, hm, ht]
  exact Attn.row_reference _ _ _ (Attn.sees_self i) M

end Cert.ReferenceIdeal.R

end
-- ==== Proof.Value.lean ====
/-
  The value: over the extended reals, and for activations, query weights and keys that are real numbers, every device's
  result is the reference's.
-/
module

public import proofs.«01_k».proof.Proof.Frames
public import proofs.«01_k».proof.Proof.Inputs
public import proofs.«01_k».proof.Proof.Reference

@[expose] public section

set_option maxRecDepth 16384

noncomputable section

namespace Cert.Proof

open Idealize.ShloMosaic Idealize.ShloMosaic.TcCoe Idealize.SL.Sem

section

open Cert.KernelIdeal Cert.KernelIdeal.Gen Cert.KernelIdeal.P

variable (m : (ℓ : Loc nD τ sig) → Buf (Elt Ideal) ℓ)
variable (x : FVec Ideal S2x512x768 .bf16) (wq : FVec Ideal ⟨2, ![768, 2048]⟩ .bf16) (k v : FVec Ideal S2x512x32x64 .bf16)
  (wo : FVec Ideal ⟨2, ![2048, 768]⟩ .bf16)

/-- The five arrays, dealt to the devices. -/
structure Dealt : Prop where
  x : ∀ d : Dev nD, m ((d.tc : Thread nD τ).loc main_arg0) = x
  q : ∀ d : Dev nD, m ((d.tc : Thread nD τ).loc main_arg1) = Layout.block ⟨2, ![768, 512]⟩ ⟨2, ![768, 2048]⟩ 1 4 d wq
  k : ∀ d : Dev nD, m ((d.tc : Thread nD τ).loc main_arg2) = k
  v : ∀ d : Dev nD, m ((d.tc : Thread nD τ).loc main_arg3) = v
  o : ∀ d : Dev nD, m ((d.tc : Thread nD τ).loc main_arg4) = Layout.block ⟨2, ![512, 768]⟩ ⟨2, ![2048, 768]⟩ 0 4 d wo

variable {m x wq k v wo}

/-- What the kernel's windows hold, of the whole arrays. -/
theorem holds (D : Dealt m x wq k v wo) (xr : Fin 2 → Fin 512 → Fin 768 → ℝ) (wr : Fin 768 → Fin 2048 → ℝ)
    (kr : Fin 2 → Fin 512 → Fin 32 → Fin 64 → ℝ) (hx : ∀ b i a, x (ix3 b i a) = (xr b i a : EReal))
    (hw : ∀ a t, wq (ix2 a t) = (wr a t : EReal)) (hk : ∀ b j h e, k (ix4 b j h e) = (kr b j h e : EReal)) :
    Holds (Xd (V1 m)) xr wr kr (fun b j h e => v (ix4 b j h e)) (fun t n => wo (ix2 t n)) where
  x d b i a := by
    show V1 m d main_v17 _ = _
    rw [x_eq, flat_at, D.x, hx]
  q d a t := by
    show V1 m d main_arg1 _ = _
    rw [V1_of m d main_arg1 (by decide), show V0 m d main_arg1 = _ from D.q d, cols_at, hw]
  k d b h j e := by
    show V1 m d main_v15 _ = _
    rw [k_eq, heads_at, D.k, hk]
  v d b h j e := by
    show V1 m d main_v16 _ = _
    rw [v_eq, heads_at, D.v]
  o d t n := by
    show V1 m d main_arg4 _ = _
    rw [V1_of m d main_arg4 (by decide), show V0 m d main_arg4 = _ from D.o d, orows_at]

/-- Every device's result is the reference's function of the whole arrays. -/
theorem same (D : Dealt m x wq k v wo) (hx : ∀ i, ∃ r : ℝ, x i = (r : EReal)) (hw : ∀ i, ∃ r : ℝ, wq i = (r : EReal))
    (hk : ∀ i, ∃ r : ℝ, k i = (r : EReal)) (d : Dev nD) :
    V3 m (outsOf m) d main_v19 = (Cert.ReferenceIdeal.R.result x wq k v wo : FVec Ideal S2x512x768 .bf16) := by
  choose xr hx using hx
  choose wr hw using hw
  choose kr hk using hk
  have H := holds D (fun b i a => xr (ix3 b i a)) (fun a t => wr (ix2 a t)) (fun b j h e => kr (ix4 b j h e))
    (fun _ _ _ => hx _) (fun _ _ => hw _) (fun _ _ _ _ => hk _)
  rw [out_eq]
  funext z
  idx_vars z
  rw [batches_at, outAt_at H]
  exact (Cert.ReferenceIdeal.R.result_at x wq k v wo _ _ _ (fun _ _ _ => hx _) (fun _ _ => hw _) (fun _ _ _ _ => hk _) _ _ _).symm

end

/-- The value claim. -/
theorem algebraic : Cert.algebraic_KernelIdeal_ReferenceIdeal_pre_finite_qk_KernelIdeal (hKernelIdeal := Cert.KernelIdeal.Gen.facts)
    (hReferenceIdeal := Cert.ReferenceIdeal.Gen.facts) (hPre_finite_qk_KernelIdeal := preK) := by
  intro m g m' g' hp ha
  letI := preK
  have D : Dealt m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun d => (ha d).1, fun d => (ha d).2.1, fun d => (ha d).2.2.1, fun d => (ha d).2.2.2.1, fun d => (ha d).2.2.2.2⟩
  have hf := fun d : Fin 4 => Cert.KernelIdeal.P.finite_of _ _ _ _ _ (hp d)
  have hx : ∀ i, ∃ r : ℝ, m' (((0 : Dev Cert.ReferenceIdeal.nD).tc : Thread Cert.ReferenceIdeal.nD Cert.ReferenceIdeal.τ).loc Cert.ReferenceIdeal.main_arg0) i = (r : EReal) := by
    intro i; rw [← D.x 0]; exact (hf 0).1 i
  have hk : ∀ i, ∃ r : ℝ, m' (((0 : Dev Cert.ReferenceIdeal.nD).tc : Thread Cert.ReferenceIdeal.nD Cert.ReferenceIdeal.τ).loc Cert.ReferenceIdeal.main_arg2) i = (r : EReal) := by
    intro i; rw [← D.k 0]; exact (hf 0).2.2 i
  have hw : ∀ i, ∃ r : ℝ, m' (((0 : Dev Cert.ReferenceIdeal.nD).tc : Thread Cert.ReferenceIdeal.nD Cert.ReferenceIdeal.τ).loc Cert.ReferenceIdeal.main_arg1) i = (r : EReal) := by
    intro i
    obtain ⟨a, t, rfl⟩ : ∃ (a : Fin 768) (t : Fin 2048), i = ix2 a t := by idx_vars i; exact ⟨_, _, rfl⟩
    have h := (hf ⟨t.val / 512, by omega⟩).2.1 (ix2 a ⟨t.val % 512, by omega⟩)
    rw [D.q, Cert.KernelIdeal.P.cols_at] at h
    rwa [show (⟨512 * (t.val / 512) + t.val % 512, by omega⟩ : Fin 2048) = t from Fin.ext (by dsimp only; omega)] at h
  refine ⟨Cert.ReferenceIdeal.Value.res_main_v37 m' 0, ?_, ?_⟩
  · refine θ_run_mono (Cert.KernelIdeal.P.run_main (F := Ideal) m g) fun r h c => ⟨(h.1 c).2.trans ?_, (h.1 c).1⟩
    rw [Cert.ReferenceIdeal.R.result_eq]
    exact same D hx hw hk c
  · exact θ_run_mono (Cert.ReferenceIdeal.Value.run (F := Ideal) m' g') fun r h => h 0

end Cert.Proof

end
-- ==== Proof.lean ====
/-
  The claim: the frames, the idealization, the value.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

/-- Everything the certificate claims. -/
theorem claim : Cert.Claim :=
  ⟨Cert.Kernel.Gen.facts, Cert.KernelIdeal.Gen.facts, Cert.ReferenceIdeal.Gen.facts, preK, preR, frameK, frameKI,
    fun m g _ => frameKI m g trivial, frameRI, fun m g _ => frameRI m g trivial, trivial, algebraic⟩

end Cert.Proof

end
